-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn_part1 {F : FTy → Type} [FloatOps F] (main_v2 : FVec F S2x128x4x64 .f32) (main_v15 : IVec S_ 1) (main_v16 : FVec F S2x128x4x64 .f32) : IVec S_ 1 :=
  let main_v17 : IVec S2x128x4x64 1 := cmpf .ogt main_v2 main_v16
  let main_cst_5 : FVec F S_ .f32 := constant S_ .f32 0x7F800000#32
  let main_v18 : FVec F S2x128x4x64 .f32 := broadcastInDim S2x128x4x64 ![] bcast_S_S2x128x4x64 main_cst_5
  let main_v19 : IVec S2x128x4x64 1 := cmpf .olt main_v2 main_v18
  let main_v20 : IVec S2x128x4x64 1 := andi main_v17 main_v19
  let main_c_6 : IVec S_ 1 := constantI S_ 1 1#1
  let main_v21 : IVec S_ 1 := (fun x v => Host.reduce IntOp.andi x v reducesTo_S2x128x4x64_S_d0_1_2_3 h_S_) main_v20 main_c_6
  let main_v22 : IVec S_ 1 := andi main_v15 main_v21
  main_v22

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S_ 1 :=
  let main_v0 : FVec F S2x128x512 .f32 := (extf .f32 · bitsLt_bf16_f32) main_arg0
  let main_v1 : FVec F S512x256 .f32 := (extf .f32 · bitsLt_bf16_f32) main_arg1
  let main_v2 : FVec F S2x128x4x64 .f32 := (extf .f32 · bitsLt_bf16_f32) main_arg2
  let main_cst : FVec F S_ .f32 := constant S_ .f32 0xFF800000#32
  let main_v3 : FVec F S2x128x512 .f32 := broadcastInDim S2x128x512 ![] bcast_S_S2x128x512 main_cst
  let main_v4 : IVec S2x128x512 1 := cmpf .ogt main_v0 main_v3
  let main_cst_0 : FVec F S_ .f32 := constant S_ .f32 0x7F800000#32
  let main_v5 : FVec F S2x128x512 .f32 := broadcastInDim S2x128x512 ![] bcast_S_S2x128x512 main_cst_0
  let main_v6 : IVec S2x128x512 1 := cmpf .olt main_v0 main_v5
  let main_v7 : IVec S2x128x512 1 := andi main_v4 main_v6
  let main_c : IVec S_ 1 := constantI S_ 1 1#1
  let main_v8 : IVec S_ 1 := (fun x v => Host.reduce IntOp.andi x v reducesTo_S2x128x512_S_d0_1_2 h_S_) main_v7 main_c
  let main_cst_1 : FVec F S_ .f32 := constant S_ .f32 0xFF800000#32
  let main_v9 : FVec F S512x256 .f32 := broadcastInDim S512x256 ![] bcast_S_S512x256 main_cst_1
  let main_v10 : IVec S512x256 1 := cmpf .ogt main_v1 main_v9
  let main_cst_2 : FVec F S_ .f32 := constant S_ .f32 0x7F800000#32
  let main_v11 : FVec F S512x256 .f32 := broadcastInDim S512x256 ![] bcast_S_S512x256 main_cst_2
  let main_v12 : IVec S512x256 1 := cmpf .olt main_v1 main_v11
  let main_v13 : IVec S512x256 1 := andi main_v10 main_v12
  let main_c_3 : IVec S_ 1 := constantI S_ 1 1#1
  let main_v14 : IVec S_ 1 := (fun x v => Host.reduce IntOp.andi x v reducesTo_S512x256_S_d0_1 h_S_) main_v13 main_c_3
  let main_v15 : IVec S_ 1 := andi main_v8 main_v14
  let main_cst_4 : FVec F S_ .f32 := constant S_ .f32 0xFF800000#32
  let main_v16 : FVec F S2x128x4x64 .f32 := broadcastInDim S2x128x4x64 ![] bcast_S_S2x128x4x64 main_cst_4
  fn_part1 (F := F) main_v2 main_v15 main_v16
-- ==== Pre_finite_scores_ReferenceIdeal.lean ====
abbrev S2x128x512 : Shape := ⟨3, ![2, 128, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x1024x4x64 : S_.BroadcastsInDim S2x1024x4x64 (![] : Fin 0 → Fin S2x1024x4x64.rank)
  reducesTo_S2x1024x4x64_S_d0_1_2_3 : S2x1024x4x64.ReducesTo [0, 1, 2, 3] S_

variable [Facts]

def fn_part1 {F : FTy → Type} [FloatOps F] (main_v2 : FVec F S2x1024x4x64 .f32) (main_v15 : IVec S_ 1) (main_v16 : FVec F S2x1024x4x64 .f32) : IVec S_ 1 :=
  let main_v17 : IVec S2x1024x4x64 1 := cmpf .ogt main_v2 main_v16
  let main_cst_5 : FVec F S_ .f32 := constant S_ .f32 0x7F800000#32
  let main_v18 : FVec F S2x1024x4x64 .f32 := broadcastInDim S2x1024x4x64 ![] bcast_S_S2x1024x4x64 main_cst_5
  let main_v19 : IVec S2x1024x4x64 1 := cmpf .olt main_v2 main_v18
  let main_v20 : IVec S2x1024x4x64 1 := andi main_v17 main_v19
  let main_c_6 : IVec S_ 1 := constantI S_ 1 1#1
  let main_v21 : IVec S_ 1 := (fun x v => Host.reduce IntOp.andi x v reducesTo_S2x1024x4x64_S_d0_1_2_3 h_S_) main_v20 main_c_6
  let main_v22 : IVec S_ 1 := andi main_v15 main_v21
  main_v22

def fn {F : FTy → Type} [FloatOps F] (main_arg0 : FVec F S2x128x512 .bf16) (main_arg1 : FVec F S512x256 .bf16) (main_arg2 : FVec F S2x1024x4x64 .bf16) (main_arg3 : FVec F S2x1024x4x64 .bf16) (main_arg4 : FVec F S256x512 .bf16) : IVec S_ 1 :=
  let main_v0 : FVec F S2x128x512 .f32 := (extf .f32 · bitsLt_bf16_f32) main_arg0
  let main_v1 : FVec F S512x256 .f32 := (extf .f32 · bitsLt_bf16_f32) main_arg1
  let main_v2 : FVec F S2x1024x4x64 .f32 := (extf .f32 · bitsLt_bf16_f32) main_arg2
  let main_cst : FVec F S_ .f32 := constant S_ .f32 0xFF800000#32
  let main_v3 : FVec F S2x128x512 .f32 := broadcastInDim S2x128x512 ![] bcast_S_S2x128x512 main_cst
  let main_v4 : IVec S2x128x512 1 := cmpf .ogt main_v0 main_v3
  let main_cst_0 : FVec F S_ .f32 := constant S_ .f32 0x7F800000#32
  let main_v5 : FVec F S2x128x512 .f32 := broadcastInDim S2x128x512 ![] bcast_S_S2x128x512 main_cst_0
  let main_v6 : IVec S2x128x512 1 := cmpf .olt main_v0 main_v5
  let main_v7 : IVec S2x128x512 1 := andi main_v4 main_v6
  let main_c : IVec S_ 1 := constantI S_ 1 1#1
  let main_v8 : IVec S_ 1 := (fun x v => Host.reduce IntOp.andi x v reducesTo_S2x128x512_S_d0_1_2 h_S_) main_v7 main_c
  let main_cst_1 : FVec F S_ .f32 := constant S_ .f32 0xFF800000#32
  let main_v9 : FVec F S512x256 .f32 := broadcastInDim S512x256 ![] bcast_S_S512x256 main_cst_1
  let main_v10 : IVec S512x256 1 := cmpf .ogt main_v1 main_v9
  let main_cst_2 : FVec F S_ .f32 := constant S_ .f32 0x7F800000#32
  let main_v11 : FVec F S512x256 .f32 := broadcastInDim S512x256 ![] bcast_S_S512x256 main_cst_2
  let main_v12 : IVec S512x256 1 := cmpf .olt main_v1 main_v11
  let main_v13 : IVec S512x256 1 := andi main_v10 main_v12
  let main_c_3 : IVec S_ 1 := constantI S_ 1 1#1
  let main_v14 : IVec S_ 1 := (fun x v => Host.reduce IntOp.andi x v reducesTo_S512x256_S_d0_1 h_S_) main_v13 main_c_3
  let main_v15 : IVec S_ 1 := andi main_v8 main_v14
  let main_cst_4 : FVec F S_ .f32 := constant S_ .f32 0xFF800000#32
  let main_v16 : FVec F S2x1024x4x64 .f32 := broadcastInDim S2x1024x4x64 ![] bcast_S_S2x1024x4x64 main_cst_4
  fn_part1 (F := F) main_v2 main_v15 main_v16
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S3x2x4x128x64 : Shape := ⟨5, ![3, 2, 4, 128, 64]⟩
abbrev S3x2x2x4x128 : Shape := ⟨5, ![3, 2, 2, 4, 128]⟩
abbrev S3 : Shape := ⟨1, ![3]⟩
abbrev S_ : Shape := ⟨0, ![]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩
abbrev S1x128x4x64 : Shape := ⟨4, ![1, 128, 4, 64]⟩
abbrev S128x4x64 : Shape := ⟨3, ![128, 4, 64]⟩
abbrev S128x64 : Shape := ⟨2, ![128, 64]⟩
abbrev S128 : Shape := ⟨1, ![128]⟩
abbrev S128x1 : Shape := ⟨2, ![128, 1]⟩
abbrev S1x1x1x128x64 : Shape := ⟨5, ![1, 1, 1, 128, 64]⟩
abbrev S1x1x1x1x128 : Shape := ⟨5, ![1, 1, 1, 1, 128]⟩
abbrev S1 : Shape := ⟨1, ![1]⟩
abbrev S1x2x4x128x64 : Shape := ⟨5, ![1, 2, 4, 128, 64]⟩
abbrev S2x4x128x64 : Shape := ⟨4, ![2, 4, 128, 64]⟩
abbrev S1x2x2x4x128 : Shape := ⟨5, ![1, 2, 2, 4, 128]⟩
abbrev S2x2x4x128 : Shape := ⟨4, ![2, 2, 4, 128]⟩
abbrev S1x1x2x4x128 : Shape := ⟨5, ![1, 1, 2, 4, 128]⟩
abbrev S2x4x128 : Shape := ⟨3, ![2, 4, 128]⟩
abbrev S2x4x128x1 : Shape := ⟨4, ![2, 4, 128, 1]⟩
abbrev S1x1x128x64 : Shape := ⟨4, ![1, 1, 128, 64]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S3x2x4x128x64, .bf16⟩
  | .local _ .vmem, ⟨7, _⟩ => ⟨S3x2x4x128x64, .bf16⟩
  | .local _ .vmem, ⟨8, _⟩ => ⟨S3x2x2x4x128, .f32⟩
  | .local _ .vmem, ⟨9, _⟩ => ⟨S3x2x2x4x128, .f32⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_218 : BitVec 32 := 1#32
  let v315 : BitVec 32 := Scalar.xori v2 c1_i32_218
  let c1_i32_223 : BitVec 32 := 1#32
  let v316 : BitVec 32 := Scalar.muli v315 c1_i32_223
  let v317 : BitVec 32 := Scalar.addi c0_i32_224 v316
  v317.toNat
def k0_dev5 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_218 : BitVec 32 := 1#32
  let v315 : BitVec 32 := Scalar.xori v2 c1_i32_218
  let c1_i32_237 : BitVec 32 := 1#32
  let v326 : BitVec 32 := Scalar.muli v315 c1_i32_237
  let v327 : BitVec 32 := Scalar.addi c0_i32_238 v326
  v327.toNat
def k0_dev6 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_346 : BitVec 32 := 2#32
  let v403 : BitVec 32 := Scalar.xori v2 c2_i32_346
  let c1_i32_351 : BitVec 32 := 1#32
  let v404 : BitVec 32 := Scalar.muli v403 c1_i32_351
  let v405 : BitVec 32 := Scalar.addi c0_i32_352 v404
  v405.toNat
def k0_dev7 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_346 : BitVec 32 := 2#32
  let v403 : BitVec 32 := Scalar.xori v2 c2_i32_346
  let c1_i32_365 : BitVec 32 := 1#32
  let v414 : BitVec 32 := Scalar.muli v403 c1_i32_365
  let v415 : BitVec 32 := Scalar.addi c0_i32_366 v414
  v415.toNat
def k0_dev8 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_474 : BitVec 32 := 4#32
  let v491 : BitVec 32 := Scalar.xori v2 c4_i32_474
  let c1_i32_479 : BitVec 32 := 1#32
  let v492 : BitVec 32 := Scalar.muli v491 c1_i32_479
  let v493 : BitVec 32 := Scalar.addi c0_i32_480 v492
  v493.toNat
def k0_dev9 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_474 : BitVec 32 := 4#32
  let v491 : BitVec 32 := Scalar.xori v2 c4_i32_474
  let c1_i32_493 : BitVec 32 := 1#32
  let v502 : BitVec 32 := Scalar.muli v491 c1_i32_493
  let v503 : BitVec 32 := Scalar.addi c0_i32_494 v502
  v503.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x256 : Shape := ⟨2, ![512, 256]⟩
abbrev S2x1024x4x64 : Shape := ⟨4, ![2, 1024, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S_ : Shape := ⟨0, ![]⟩
abbrev S128x1 : Shape := ⟨2, ![128, 1]⟩
abbrev S1024 : Shape := ⟨1, ![1024]⟩
abbrev S1x1024 : Shape := ⟨2, ![1, 1024]⟩
abbrev S128x1024 : Shape := ⟨2, ![128, 1024]⟩
abbrev S2x4x128x1024 : Shape := ⟨4, ![2, 4, 128, 1024]⟩
abbrev S1x1x128x1024 : Shape := ⟨4, ![1, 1, 128, 1024]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 142
  | .vmem => 0
  | .smem => 0
  | _ => 0

abbrev hbmTy0_0 (i : Nat) : BufTy := match i % 128 with
  | 0 => ⟨S2x128x512, .bf16⟩
  | 1 => ⟨S512x256, .bf16⟩
  | 2 => ⟨S2x1024x4x64, .bf16⟩
  | 3 => ⟨S2x1024x4x64, .bf16⟩
  | 4 => ⟨S256x512, .bf16⟩
  | 5 => ⟨S2x128x512, .f32⟩
  | 6 => ⟨S512x256, .f32⟩
  | 7 => ⟨S2x1024x4x64, .f32⟩
  | 8 => ⟨S2x1024x4x64, .f32⟩
  | 9 => ⟨S256x512, .f32⟩
  | 10 => ⟨S2x128x256, .f32⟩
  | 11 => ⟨S2x128x4x64, .f32⟩
  | 12 => ⟨S128, .i32⟩
  | 13 => ⟨S_, .i32⟩
  | 14 => ⟨S_, .i32⟩
  | 15 => ⟨S128, .i32⟩
  | 16 => ⟨S128, .i32⟩
  | 17 => ⟨S128, .i32⟩
  | 18 => ⟨S_, .i32⟩
  | 19 => ⟨S128, .i32⟩
  | 20 => ⟨S128, .i1⟩
  | 21 => ⟨S128, .i32⟩
  | 22 => ⟨S128, .i32⟩
  | 23 => ⟨S_, .i32⟩
  | 24 => ⟨S128, .i32⟩
  | 25 => ⟨S128, .i1⟩
  | 26 => ⟨S128, .i1⟩
  | 27 => ⟨S_, .i32⟩
  | 28 => ⟨S128, .i32⟩
  | 29 => ⟨S128, .i32⟩
  | 30 => ⟨S128, .i32⟩
  | 31 => ⟨S128x1, .i32⟩
  | 32 => ⟨S1024, .i32⟩
  | 33 => ⟨S_, .i32⟩
  | 34 => ⟨S_, .i32⟩
  | 35 => ⟨S1024, .i32⟩
  | 36 => ⟨S1024, .i32⟩
  | 37 => ⟨S1024, .i32⟩
  | 38 => ⟨S_, .i32⟩
  | 39 => ⟨S1024, .i32⟩
  | 40 => ⟨S1024, .i1⟩
  | 41 => ⟨S1024, .i32⟩
  | 42 => ⟨S1024, .i32⟩
  | 43 => ⟨S_, .i32⟩
  | 44 => ⟨S1024, .i32⟩
  | 45 => ⟨S1024, .i1⟩
  | 46 => ⟨S1024, .i1⟩
  | 47 => ⟨S_, .i32⟩
  | 48 => ⟨S1024, .i32⟩
  | 49 => ⟨S1024, .i32⟩
  | 50 => ⟨S1024, .i32⟩
  | 51 => ⟨S1x1024, .i32⟩
  | 52 => ⟨S128x1024, .i32⟩
  | 53 => ⟨S128x1024, .i32⟩
  | 54 => ⟨S128x1024, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x1024, .i32⟩
  | 62 => ⟨S1x1024, .i32⟩
  | 63 => ⟨S_, .i32⟩
  | 64 => ⟨S1x1024, .i32⟩
  | 65 => ⟨S1x1024, .i1⟩
  | 66 => ⟨S_, .i32⟩
  | 67 => ⟨S1x1024, .i32⟩
  | 68 => ⟨S1x1024, .i1⟩
  | 69 => ⟨S_, .i32⟩
  | 70 => ⟨S_, .i1⟩
  | 71 => ⟨S1x1024, .i1⟩
  | 72 => ⟨S1x1024, .i1⟩
  | 73 => ⟨S1x1024, .i1⟩
  | 74 => ⟨S1x1024, .i32⟩
  | 75 => ⟨S1x1024, .i32⟩
  | 76 => ⟨S1x1024, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S128x1, .i32⟩
  | 84 => ⟨S128x1, .i32⟩
  | 85 => ⟨S_, .i32⟩
  | 86 => ⟨S128x1, .i32⟩
  | 87 => ⟨S128x1, .i1⟩
  | 88 => ⟨S_, .i32⟩
  | 89 => ⟨S128x1, .i32⟩
  | 90 => ⟨S128x1, .i1⟩
  | 91 => ⟨S_, .i32⟩
  | 92 => ⟨S_, .i1⟩
  | 93 => ⟨S128x1, .i1⟩
  | 94 => ⟨S128x1, .i1⟩
  | 95 => ⟨S128x1, .i1⟩
  | 96 => ⟨S128x1, .i32⟩
  | 97 => ⟨S128x1, .i32⟩
  | 98 => ⟨S128x1, .i32⟩
  | 99 => ⟨S128x1024, .i32⟩
  | 100 => ⟨S128x1024, .i32⟩
  | 101 => ⟨S128x1024, .i1⟩
  | 102 => ⟨S128x1024, .i1⟩
  | 103 => ⟨S2x4x128x1024, .f32⟩
  | 104 => ⟨S_, .f32⟩
  | 105 => ⟨S2x4x128x1024, .f32⟩
  | 106 => ⟨S2x4x128x1024, .f32⟩
  | 107 => ⟨S1x1x128x1024, .i1⟩
  | 108 => ⟨S_, .f32⟩
  | 109 => ⟨S_, .f32⟩
  | 110 => ⟨S2x4x128x1024, .i1⟩
  | 111 => ⟨S2x4x128x1024, .f32⟩
  | 112 => ⟨S2x4x128x1024, .f32⟩
  | 113 => ⟨S_, .f32⟩
  | 114 => ⟨S2x4x128, .f32⟩
  | 115 => ⟨S2x4x128x1, .f32⟩
  | 116 => ⟨S2x4x128x1024, .f32⟩
  | 117 => ⟨S2x4x128x1024, .f32⟩
  | 118 => ⟨S2x4x128x1024, .f32⟩
  | 119 => ⟨S_, .i1⟩
  | 120 => ⟨S128, .i1⟩
  | 121 => ⟨S1x1x128x1, .i1⟩
  | 122 => ⟨S_, .f32⟩
  | 123 => ⟨S2x4x128, .f32⟩
  | 124 => ⟨S2x4x128x1, .f32⟩
  | 125 => ⟨S_, .f32⟩
  | 126 => ⟨S_, .f32⟩
  | 127 => ⟨S2x4x128x1, .i1⟩
  | _ => ⟨S2x128x512, .bf16⟩

abbrev hbmTy0_1 (i : Nat) : BufTy := match i % 128 with
  | 0 => ⟨S2x4x128x1, .f32⟩
  | 1 => ⟨S2x4x128x1, .f32⟩
  | 2 => ⟨S2x4x128x1024, .f32⟩
  | 3 => ⟨S2x4x128x1024, .f32⟩
  | 4 => ⟨S1x1x128x1, .i1⟩
  | 5 => ⟨S_, .f32⟩
  | 6 => ⟨S_, .f32⟩
  | 7 => ⟨S2x4x128x1024, .i1⟩
  | 8 => ⟨S2x4x128x1024, .f32⟩
  | 9 => ⟨S2x4x128x1024, .f32⟩
  | 10 => ⟨S2x4x64x128, .f32⟩
  | 11 => ⟨S2x128x4x64, .f32⟩
  | 12 => ⟨S2x128x256, .f32⟩
  | 13 => ⟨S2x128x512, .f32⟩
  | _ => ⟨S2x128x512, .bf16⟩

abbrev hbmTy (i : Nat) : BufTy := match i / 128 with
  | 0 => hbmTy0_0 i
  | 1 => hbmTy0_1 i
  | _ => ⟨S2x128x512, .bf16⟩

abbrev bufTy : (tb : Table) → Fin (tcTables nBuf tb) → BufTy
  | .hbm, ⟨i, _⟩ => hbmTy i
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Protocol.lean ====
/-
# The three-round exchange: peers, cells, schedule, dues and levels

Eight devices exchange partial softmax results in three rounds. In round `r` device `c` swaps one slot of its context
buffer and one slot of its statistics buffer with the device whose number differs from `c` in bit `r` alone. Before
any transfer each device raises the barrier semaphore of its three partners and waits for three units on its own.

This module states that exchange for the library of rounds: which cell is paid by whom, what each payment hands over,
what each device owes when it starts, and the levels that order the waits. The contents of the slots are parameters
here: `X r c` is what slot `r` of the context buffer of device `c` holds when it is sent, `Y r c` the same for the
statistics buffer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.FrameBody
public import Idealize.ShloMosaic.Lib.Ring
public import Idealize.ShloMosaic.Lib.Tactic

@[expose] public section

set_option maxRecDepth 16384

noncomputable section

namespace Cert.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds component of the exchange: a cell's duties are named by the round whose partner pays them. -/
abbrev UX : Type := URounds (GSem nD τ sig) (Fin 3)
/-- The pipeline's component beside the exchange's. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## Partners -/

set_option backward.proofsInPublic true in
/-- The partner of device `c` in round `r`: bit `r` of its number flipped. -/
def peer (r : Fin 3) (c : Dev nD) : Dev nD := ⟨c.val ^^^ (2 ^ r.val), by revert r c; decide⟩

/-- The partner's partner is the device itself. -/
theorem peer_peer (r : Fin 3) (c : Dev nD) : peer r (peer r c) = c := by revert r c; decide

/-- Flipping bit `r` as a permutation of the devices. -/
def swap (r : Fin 3) : Dev nD ≃ Dev nD := ⟨peer r, peer r, peer_peer r, peer_peer r⟩

/-- The device that the first barrier signal addresses is the partner of round 0. -/
theorem dev1_eq : ∀ c : Dev nD, (⟨k0_dev1 c, k0_dev1_lt c⟩ : Dev nD) = peer 0 c := by decide +kernel
/-- The device that the second barrier signal addresses is the partner of round 1. -/
theorem dev2_eq : ∀ c : Dev nD, (⟨k0_dev2 c, k0_dev2_lt c⟩ : Dev nD) = peer 1 c := by decide +kernel
/-- The device that the third barrier signal addresses is the partner of round 2. -/
theorem dev3_eq : ∀ c : Dev nD, (⟨k0_dev3 c, k0_dev3_lt c⟩ : Dev nD) = peer 2 c := by decide +kernel
/-- The device that the context transfer of round 0 addresses is the partner of round 0. -/
theorem dev4_eq : ∀ c : Dev nD, (⟨k0_dev4 c, k0_dev4_lt c⟩ : Dev nD) = peer 0 c := by decide +kernel
/-- The device that the statistics transfer of round 0 addresses is the partner of round 0. -/
theorem dev5_eq : ∀ c : Dev nD, (⟨k0_dev5 c, k0_dev5_lt c⟩ : Dev nD) = peer 0 c := by decide +kernel
/-- The device that the context transfer of round 1 addresses is the partner of round 1. -/
theorem dev6_eq : ∀ c : Dev nD, (⟨k0_dev6 c, k0_dev6_lt c⟩ : Dev nD) = peer 1 c := by decide +kernel
/-- The device that the statistics transfer of round 1 addresses is the partner of round 1. -/
theorem dev7_eq : ∀ c : Dev nD, (⟨k0_dev7 c, k0_dev7_lt c⟩ : Dev nD) = peer 1 c := by decide +kernel
/-- The device that the context transfer of round 2 addresses is the partner of round 2. -/
theorem dev8_eq : ∀ c : Dev nD, (⟨k0_dev8 c, k0_dev8_lt c⟩ : Dev nD) = peer 2 c := by decide +kernel
/-- The device that the statistics transfer of round 2 addresses is the partner of round 2. -/
theorem dev9_eq : ∀ c : Dev nD, (⟨k0_dev9 c, k0_dev9_lt c⟩ : Dev nD) = peer 2 c := by decide +kernel

/-! ## Slots and semaphores -/

/-- Slot `r` of a context buffer lies inside it. -/
theorem inbC (r : Fin 3) : ∀ a, (![r.val, 0, 0, 0, 0] : Fin 5 → Nat) a + S1x2x4x128x64.size a ≤ S3x2x4x128x64.size a := by
  revert r; decide
/-- Slot `r` of a statistics buffer lies inside it. -/
theorem inbS (r : Fin 3) : ∀ a, (![r.val, 0, 0, 0, 0] : Fin 5 → Nat) a + S1x2x2x4x128.size a ≤ S3x2x2x4x128.size a := by
  revert r; decide
/-- Semaphore `r` lies inside an array of three. -/
theorem inbQ (r : Fin 3) : ∀ a, (![r.val] : Fin 1 → Nat) a + S1.size a ≤ S3.size a := by revert r; decide

/-- Slot `r` of a context buffer, as the transfers name it. -/
abbrev slotC (M : Memref sig .tc .vmem S3x2x4x128x64 .bf16) (r : Fin 3) : Memref sig .tc .vmem S2x4x128x64 .bf16 :=
  (M.slice (Rect.unit (s := S3x2x4x128x64) ![r.val, 0, 0, 0, 0] S1x2x4x128x64.size (inbC r)) (fun _ => rfl)).squeeze
    S2x4x128x64 squeezes_S1x2x4x128x64_S2x4x128x64
/-- Slot `r` of a statistics buffer, as the transfers name it. -/
abbrev slotS (M : Memref sig .tc .vmem S3x2x2x4x128 .f32) (r : Fin 3) : Memref sig .tc .vmem S2x2x4x128 .f32 :=
  (M.slice (Rect.unit (s := S3x2x2x4x128) ![r.val, 0, 0, 0, 0] S1x2x2x4x128.size (inbS r)) (fun _ => rfl)).squeeze
    S2x2x4x128 squeezes_S1x2x2x4x128_S2x2x4x128

/-- Own context buffer, received contexts, own statistics, received statistics. -/
abbrev cM : Memref sig .tc .vmem S3x2x4x128x64 .bf16 := Memref.whole cc0_scratch0
abbrev crM : Memref sig .tc .vmem S3x2x4x128x64 .bf16 := Memref.whole cc0_scratch1
abbrev sM : Memref sig .tc .vmem S3x2x2x4x128 .f32 := Memref.whole cc0_scratch2
abbrev srM : Memref sig .tc .vmem S3x2x2x4x128 .f32 := Memref.whole cc0_scratch3

/-- The semaphore of kind `k` in round `r`: contexts sent (0) and received (1), statistics sent (2) and received (3). -/
abbrev semArr (k : Fin 4) : DmaSems sig S3 := match k with
  | 0 => cc0_scratch4 | 1 => cc0_scratch5 | 2 => cc0_scratch6 | 3 => cc0_scratch7
abbrev semA (A : DmaSems sig S3) (r : Fin 3) : DmaSem sig :=
  ((A.slice (Rect.unit (s := S3) ![r.val] S1.size (inbQ r))).squeeze S_ squeezes_S1_S_).sem
abbrev semX (k : Fin 4) (r : Fin 3) : DmaSem sig := semA (semArr k) r
abbrev barS : Sem sig := (SemArray.scalar (sig.barrier 0 rfl) : Sems sig S_).sem

abbrev barCell (c : Dev nD) : GSem nD τ sig := ((c : Thread nD τ), .reg barS)
abbrev xCell (k : Fin 4) (r : Fin 3) (c : Dev nD) : GSem nD τ sig := ((c : Thread nD τ), .dma (semX k r))

/-- The credit a transfer of a context slot carries, and of a statistics slot. -/
abbrev NC : ℕ := (slotC cM 0).view.dmaCredit
abbrev NS : ℕ := (slotS sM 0).view.dmaCredit
/-- A transfer of a context slot carries some credit. -/
theorem NC_pos : 0 < NC := View.dmaCredit_pos _ (by decide)
/-- A transfer of a statistics slot carries some credit. -/
theorem NS_pos : 0 < NS := View.dmaCredit_pos _ (by decide)
abbrev cost (k : Fin 4) : ℕ := if k.val < 2 then NC else NS
/-- Every transfer carries some credit. -/
theorem cost_pos (k : Fin 4) : 0 < cost k := by unfold cost; split; exacts [NC_pos, NS_pos]

/-- Every slot of the contexts sent carries the same credit. -/
theorem creditC (r : Fin 3) : (slotC cM r).view.dmaCredit = NC := by fin_cases r <;> rfl
/-- Every slot of the contexts received carries that credit. -/
theorem creditCr (r : Fin 3) : (slotC crM r).view.dmaCredit = NC := by fin_cases r <;> rfl
/-- Every slot of the statistics sent carries the same credit. -/
theorem creditS (r : Fin 3) : (slotS sM r).view.dmaCredit = NS := by fin_cases r <;> rfl
/-- Every slot of the statistics received carries that credit. -/
theorem creditSr (r : Fin 3) : (slotS srM r).view.dmaCredit = NS := by fin_cases r <;> rfl

/-- Which of the twelve transfer semaphores a semaphore is, if any. -/
def which (s : SemLoc sig) : Option (Fin 4 × Fin 3) :=
  (Finset.univ.toList : List (Fin 4 × Fin 3)).find? fun p => decide (s = .dma (semX p.1 p.2))

/-- The twelve transfer semaphores differ. -/
theorem semX_inj : ∀ p q : Fin 4 × Fin 3, semX p.1 p.2 = semX q.1 q.2 → p = q := by decide +kernel

/-- A transfer semaphore is recognised by its kind and round. -/
theorem which_semX (k : Fin 4) (r : Fin 3) : which (.dma (semX k r)) = some (k, r) := by
  unfold which
  cases h : (Finset.univ.toList : List (Fin 4 × Fin 3)).find? fun p => decide ((.dma (semX k r) : SemLoc sig) = .dma (semX p.1 p.2)) with
  | none =>
    have := List.find?_eq_none.mp h (k, r) (by simp)
    simp at this
  | some q =>
    have hq : (SemLoc.dma (semX k r) : SemLoc sig) = .dma (semX q.1 q.2) := by simpa using List.find?_some h
    rw [semX_inj (k, r) q (by injection hq)]

/-- A transfer semaphore is not the barrier. -/
theorem dma_ne_bar (q : DmaSem sig) : (SemLoc.dma q : SemLoc sig) ≠ .reg barS := fun h => by cases h

/-! ## What a slot is held at -/

variable (X : Fin 3 → Dev nD → (cc0_scratch0 : Ref sig .tc).ty.Contents (Elt F))
  (Y : Fin 3 → Dev nD → (cc0_scratch2 : Ref sig .tc).ty.Contents (Elt F))

/-- Slot `r` of a context buffer of device `c` at the contents `f`, outright. -/
def ptsC (M : Memref sig .tc .vmem S3x2x4x128x64 .bf16) (r : Fin 3) (c : Dev nD) (f : Buf (Elt F) (M.view.loc (c : Thread nD τ))) : sProp 𝕄 :=
  (slotC M r).view.loc (c : Thread nD τ) ↦[(slotC M r).view.set]{fullShare} f
def ptsS (M : Memref sig .tc .vmem S3x2x2x4x128 .f32) (r : Fin 3) (c : Dev nD) (f : Buf (Elt F) (M.view.loc (c : Thread nD τ))) : sProp 𝕄 :=
  (slotS M r).view.loc (c : Thread nD τ) ↦[(slotS M r).view.set]{fullShare} f

instance ptsC_storable (M r) (c : Dev nD) (f) : BI.Storable (upEmb : UEmb _ 𝕄) (ptsC (F := F) M r c f) := by unfold ptsC; infer_instance
instance ptsS_storable (M r) (c : Dev nD) (f) : BI.Storable (upEmb : UEmb _ 𝕄) (ptsS (F := F) M r c f) := by unfold ptsS; infer_instance

/-! ## The schedule -/

/-- What the partner of round `d` hands device `c` with its barrier signal: its two landing slots of that round. -/
def barPay (c : Dev nD) (d : Fin 3) : sProp 𝕄 :=
  iprop((∃ f, ptsC (F := F) crM d (peer d c) f) ∗ ∃ f, ptsS (F := F) srM d (peer d c) f)

/-- What device `c` gets at its transfer semaphore of kind `k` in round `r`: the slot it sent back, or the landed one. -/
def xPay (k : Fin 4) (r : Fin 3) (c : Dev nD) : sProp 𝕄 := match k with
  | 0 => ptsC cM r c (X r c)
  | 1 => ptsC crM r c (X r (peer r c))
  | 2 => ptsS sM r c (Y r c)
  | 3 => ptsS srM r c (Y r (peer r c))

instance barPay_storable (c : Dev nD) (d : Fin 3) : BI.Storable (upEmb : UEmb _ 𝕄) (barPay (F := F) c d) := by
  unfold barPay; infer_instance
instance xPay_storable (k r) (c : Dev nD) : BI.Storable (upEmb : UEmb _ 𝕄) (xPay (F := F) X Y k r c) := by
  unfold xPay; split <;> infer_instance

def dutiesAt (g : GSem nD τ sig) (n : ℕ) : Finset (Fin 3) :=
  if n = 0 ∧ g.1.2 = .tc then (if g.2 = .reg barS then Finset.univ else if (which g.2).isSome then {0} else ∅) else ∅
def amountAt (g : GSem nD τ sig) : ℕ :=
  if g.2 = .reg barS then 1 else match which g.2 with | some p => cost p.1 | none => 1
def payAt (g : GSem nD τ sig) (d : Fin 3) : sProp 𝕄 :=
  if g.2 = .reg barS then barPay g.1.1 d else match which g.2 with | some p => xPay X Y p.1 p.2 g.1.1 | none => iprop(emp)

instance payAt_storable (g : GSem nD τ sig) (d : Fin 3) : BI.Storable (upEmb : UEmb _ 𝕄) (payAt (F := F) X Y g d) := by
  unfold payAt
  split
  · infer_instance
  · split <;> infer_instance

/-- One round. A barrier cell has the duties `0, 1, 2` of one unit each, paid by the partners of those rounds; a transfer
    cell one duty `0` of the transfer's credit. -/
def xRd : Rounds.Schedule (GSem nD τ sig) (Fin 3) 𝕄 where
  duties g n := dutiesAt g n
  unitless _ := False
  amount g _ _ := amountAt g
  payload g _ d := payAt X Y g d
  amount_pos g _ _ _ := by
    unfold amountAt
    split
    · exact Nat.one_pos
    · split
      · exact cost_pos _
      · exact Nat.one_pos

instance xRd_payload_storable (g : GSem nD τ sig) (n : ℕ) (d : Fin 3) :
    BI.Storable (upEmb : UEmb _ 𝕄) ((xRd (F := F) X Y).payload g n d) := payAt_storable X Y g d

/-- The schedule's duties, by definition. -/
theorem xRd_duties (g : GSem nD τ sig) (n : ℕ) : (xRd (F := F) X Y).duties g n = dutiesAt g n := rfl
/-- The schedule's amounts, by definition. -/
theorem xRd_amount (g : GSem nD τ sig) (n : ℕ) (d : Fin 3) : (xRd (F := F) X Y).amount g n d = amountAt g := rfl
/-- The schedule's payloads, by definition. -/
theorem xRd_payload (g : GSem nD τ sig) (n : ℕ) (d : Fin 3) : (xRd (F := F) X Y).payload g n d = payAt X Y g d := rfl

section Tables
variable (c : Dev nD) (k : Fin 4) (r : Fin 3)

/-- A barrier cell has three duties. -/
theorem duties_bar : (xRd X Y).duties (barCell c) 0 = Finset.univ := by
  rw [xRd_duties]
  unfold dutiesAt
  rw [if_pos ⟨rfl, rfl⟩, if_pos rfl]
/-- A transfer cell has one duty. -/
theorem duties_x : (xRd X Y).duties (xCell k r c) 0 = {0} := by
  rw [xRd_duties]
  unfold dutiesAt
  rw [if_pos ⟨rfl, rfl⟩, if_neg (dma_ne_bar _), which_semX]; rfl
/-- No cell has a duty after round 0 of the schedule. -/
theorem duties_later (g : GSem nD τ sig) : ∀ n, 1 ≤ n → (xRd X Y).duties g n = ∅ := fun n hn => by
  rw [xRd_duties]
  unfold dutiesAt
  exact if_neg fun h => by omega

/-- Each duty of a barrier cell is one unit. -/
theorem amount_bar (d : Fin 3) : (xRd X Y).amount (barCell c) 0 d = 1 := by rw [xRd_amount]; exact if_pos rfl
/-- The duty of a transfer cell is the transfer's credit. -/
theorem amount_x (d : Fin 3) : (xRd X Y).amount (xCell k r c) 0 d = cost k := by
  rw [xRd_amount]
  unfold amountAt
  rw [if_neg (dma_ne_bar _), which_semX]

/-- What the duties of a barrier cell hand over. -/
theorem payload_bar (d : Fin 3) : (xRd X Y).payload (barCell c) 0 d = barPay c d := by rw [xRd_payload]; exact if_pos rfl
/-- What the duty of a transfer cell hands over. -/
theorem payload_x (d : Fin 3) : (xRd X Y).payload (xCell k r c) 0 d = xPay X Y k r c := by
  rw [xRd_payload]
  unfold payAt
  rw [if_neg (dma_ne_bar _), which_semX]

/-- A barrier cell expects three units. -/
theorem expect_bar : (xRd X Y).expect (barCell c) 0 = 3 := by
  unfold Schedule.expect Schedule.amountOf
  rw [duties_bar, Finset.sum_congr rfl fun d _ => amount_bar X Y c d]; rfl
/-- A transfer cell expects the transfer's credit. -/
theorem expect_x : (xRd X Y).expect (xCell k r c) 0 = cost k := by
  unfold Schedule.expect Schedule.amountOf
  rw [duties_x, Finset.sum_singleton, amount_x]

/-- All three payments of a barrier cell. -/
theorem rest_bar : bigSep ((xRd X Y).duties (barCell c) 0 \ ∅) (fun d => (xRd X Y).payload (barCell c) 0 d)
    = iprop(barPay (F := F) c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
/-- The one payment of a transfer cell. -/
theorem rest_x : bigSep ((xRd X Y).duties (xCell k r c) 0 \ ∅) (fun d => (xRd X Y).payload (xCell k r c) 0 d) = xPay X Y k r c := by
  rw [Finset.sdiff_empty, duties_x, bigSep_singleton, payload_x]

end Tables

/-! ## Dues and levels -/

/-- Dues as a list in the order they are paid: the head is the last summand. -/
def owe : List (GSem nD τ sig × ℕ) → CellTallies nD τ sig Unit
  | [] => 0
  | p :: l => owe l + tallyAt p.1 () p.2

/-- Only a cell in the list of dues is owed anything. -/
theorem owe_pos {l : List (GSem nD τ sig × ℕ)} {g : GSem nD τ sig} {u : Unit} (h : 0 < owe l g u) : ∃ p ∈ l, g = p.1 := by
  induction l with
  | nil => exact absurd h (Nat.lt_irrefl 0)
  | cons p l ih =>
    rw [owe, Pi.add_apply, Finsupp.add_apply] at h
    rcases Nat.add_pos_iff_pos_or_pos.mp h with h | h
    · obtain ⟨q, hq, e⟩ := ih h
      exact ⟨q, List.mem_cons_of_mem _ hq, e⟩
    · exact ⟨p, List.mem_cons_self, (Pipeline.tallyAt_pos h).1⟩

/-- What device `c` still owes when rounds `r`, …, 2 are ahead: per round a context transfer and a statistics transfer. -/
def dues3 (c : Dev nD) : List (GSem nD τ sig × ℕ) := []
def dues2 (c : Dev nD) : List (GSem nD τ sig × ℕ) := (xCell 1 2 (peer 2 c), NC) :: (xCell 3 2 (peer 2 c), NS) :: dues3 c
def dues1 (c : Dev nD) : List (GSem nD τ sig × ℕ) := (xCell 1 1 (peer 1 c), NC) :: (xCell 3 1 (peer 1 c), NS) :: dues2 c
def dues0 (c : Dev nD) : List (GSem nD τ sig × ℕ) := (xCell 1 0 (peer 0 c), NC) :: (xCell 3 0 (peer 0 c), NS) :: dues1 c
/-- All of it, the three barrier units first. -/
def dues (c : Dev nD) : List (GSem nD τ sig × ℕ) :=
  (barCell (peer 0 c), 1) :: (barCell (peer 1 c), 1) :: (barCell (peer 2 c), 1) :: dues0 c

def O₀ (c : Dev nD) : CellTallies nD τ sig Unit := owe (dues c)

def L (g : GSem nD τ sig) : Finset Unit := if g.1.2 = .tc then {()} else ∅
/-- Barrier cells at 1, a receive cell of round `r` at `2 + r`, everything else at 0. -/
def lv (g : GSem nD τ sig) (_ : Unit) : ℕ :=
  if g.2 = .reg barS then 1 else match which g.2 with | some p => if p.1 = 1 ∨ p.1 = 3 then 2 + p.2.val else 0 | none => 0

/-- Only the main core of a device has cells with a level. -/
theorem L_of_ne (g : GSem nD τ sig) (h : g.1.2 ≠ .tc) : L g = ∅ := if_neg h
/-- Every cell of a device's main core has a level. -/
theorem L_tc (c : Dev nD) (s : SemLoc sig) : L ((c : Thread nD τ), s) = {()} := if_pos rfl
/-- The level of a barrier cell. -/
theorem lv_bar (c : Dev nD) : lv (barCell c) () = 1 := if_pos rfl
/-- The level of a transfer cell. -/
theorem lv_x (k : Fin 4) (r : Fin 3) (c : Dev nD) : lv (xCell k r c) () = if k = 1 ∨ k = 3 then 2 + r.val else 0 := by
  unfold lv; rw [if_neg (dma_ne_bar _), which_semX]

/-- A wait on a cell at level `n` is allowed while every due lies above `n`. -/
theorem mayWait (c : Dev nD) (s : SemLoc sig) (l : List (GSem nD τ sig × ℕ)) (n : ℕ) (hs : lv ((c : Thread nD τ), s) () ≤ n)
    (hl : ∀ p ∈ l, p.1.1.2 = .tc ∧ n < lv p.1 ()) : (levAts L lv : sProp 𝕄) ⊢ MayWait (c : Thread nD τ) s () (owe l) :=
  MayOwe.of_cut (L := L) (lev := lv) n (fun p hp => by rw [Finset.mem_singleton.mp hp, L_tc]; exact Finset.mem_singleton_self _)
    (fun g u hg => by
      obtain ⟨p, hp, rfl⟩ := owe_pos hg
      unfold L; rw [if_pos (hl p hp).1]; exact Finset.mem_singleton_self _)
    (fun p hp => by rw [Finset.mem_singleton.mp hp]; exact hs)
    (fun g u hg => by
      obtain ⟨p, hp, rfl⟩ := owe_pos hg
      exact (hl p hp).2)

/-- After the last round nothing is due. -/
theorem dues3_above (c : Dev nD) (n : ℕ) : ∀ p ∈ dues3 c, p.1.1.2 = .tc ∧ n < lv p.1 () := fun p hp => by simp [dues3] at hp
/-- With round 2 ahead all dues lie above the receive cells of round 1. -/
theorem dues2_above (c : Dev nD) : ∀ p ∈ dues2 c, p.1.1.2 = .tc ∧ 3 < lv p.1 () := fun p hp => by
  simp only [dues2, List.mem_cons] at hp
  rcases hp with rfl | rfl | hp
  · exact ⟨rfl, by rw [lv_x]; decide⟩
  · exact ⟨rfl, by rw [lv_x]; decide⟩
  · exact dues3_above c _ p hp
/-- With rounds 1 and 2 ahead all dues lie above the receive cells of round 0. -/
theorem dues1_above (c : Dev nD) : ∀ p ∈ dues1 c, p.1.1.2 = .tc ∧ 2 < lv p.1 () := fun p hp => by
  simp only [dues1, List.mem_cons] at hp
  rcases hp with rfl | rfl | hp
  · exact ⟨rfl, by rw [lv_x]; decide⟩
  · exact ⟨rfl, by rw [lv_x]; decide⟩
  · exact ⟨(dues2_above c p hp).1, by have := (dues2_above c p hp).2; omega⟩
/-- With all rounds ahead all dues lie above the barrier. -/
theorem dues0_above (c : Dev nD) : ∀ p ∈ dues0 c, p.1.1.2 = .tc ∧ 1 < lv p.1 () := fun p hp => by
  simp only [dues0, List.mem_cons] at hp
  rcases hp with rfl | rfl | hp
  · exact ⟨rfl, by rw [lv_x]; decide⟩
  · exact ⟨rfl, by rw [lv_x]; decide⟩
  · exact ⟨(dues1_above c p hp).1, by have := (dues1_above c p hp).2; omega⟩
/-- All dues at the start lie above the staging copies. -/
theorem dues_above (c : Dev nD) : ∀ p ∈ dues c, p.1.1.2 = .tc ∧ 0 < lv p.1 () := fun p hp => by
  simp only [dues, List.mem_cons] at hp
  rcases hp with rfl | rfl | rfl | hp
  · exact ⟨rfl, by rw [lv_bar]; decide⟩
  · exact ⟨rfl, by rw [lv_bar]; decide⟩
  · exact ⟨rfl, by rw [lv_bar]; decide⟩
  · exact ⟨(dues0_above c p hp).1, by have := (dues0_above c p hp).2; omega⟩

/-! ## What the launch credits each device with -/

/-- The credit for device `c`'s own cells. -/
def due1 (r : Fin 3) (c : Dev nD) : CellTallies nD τ sig Unit :=
  tallyAt (barCell c) () 1 + (tallyAt (xCell 1 r c) () NC + tallyAt (xCell 3 r c) () NS)

/-- What all devices owe together is what their own cells are due together. -/
theorem sum_owe : (∑ c : Dev nD, O₀ c) = ∑ c : Dev nD, (due1 0 c + due1 1 c + due1 2 c) := by
  have h (c : Dev nD) : O₀ c = due1 0 (swap 0 c) + due1 1 (swap 1 c) + due1 2 (swap 2 c) := by
    show owe (dues c) = due1 0 (peer 0 c) + due1 1 (peer 1 c) + due1 2 (peer 2 c)
    simp only [dues, dues0, dues1, dues2, dues3, owe, due1]
    rw [zero_add]
    ac_rfl
  simp only [h, Finset.sum_add_distrib]
  rw [Equiv.sum_comp (swap 0) (due1 0), Equiv.sum_comp (swap 1) (due1 1), Equiv.sum_comp (swap 2) (due1 2)]

end Cert.Tree

end
-- ==== Proof.Contents.lean ====
/-
# What the buffers hold

The kernel's arithmetic, device by device, as functions of the five argument blocks: one head's partial softmax over the
device's own keys, the merge of two partial softmaxes, the three-round state of every device, the normalised result and
its projection. `cont r c` and `stat r c` are the two scratch buffers' contents at slot `r` of device `c`, in the
form the exchange (Protocol.lean) takes them.
-/
module

public import proofs.«01_k».proof.Proof.Protocol
public import Idealize.ShloMosaic.Lib.Pipeline.Value
public import Idealize.ShloMosaic.Lib.Pointwise.Index

@[expose] public section

set_option maxRecDepth 16384

noncomputable section

namespace Cert.Tree

open Cert.KernelIdeal Cert.KernelIdeal.Gen

open Idealize.ShloMosaic
open Idealize.ShloMosaic.TcCoe

variable {F : FTy → Type} [FloatOps F]

/-! ## One head over the device's own keys -/

/-- Head `h` is a block of 64 of the 256 columns. -/
theorem sliceH (h : Fin 4) : S128x256.Slices ![0, 64 * h.val] S128x64 := by revert h; decide

/-- Which (row, own key) pairs attend on device `c`: the block test over the device's two key blocks. -/
def pattern (v2 : BitVec 32) : IVec S128x128 1 :=
  k0_pay12 (k0_pay5 k0_pay2 k0_pay3 k0_pay4 0#32)
    (k0_pay7 v2 (iota .tc S128x128 32 [1] iota_S128x128_d1_w32) k0_pay2 k0_pay3 k0_pay4 0#32)
    (Scalar.select (Scalar.cmpi .eq 4#32 0#32) 1#32 4#32)
    (k0_pay8 v2 (iota .tc S128x128 32 [1] iota_S128x128_d1_w32)) (k0_pay9 v2 (iota .tc S128x128 32 [1] iota_S128x128_d1_w32))
    (k0_pay10 v2 (iota .tc S128x128 32 [1] iota_S128x128_d1_w32)) k0_pay11

/-- The device's number as the kernel computes it. -/
def rank8 (c : Dev nD) : BitVec 32 := Scalar.remsi (Scalar.divsi (Dev.word c) 1#32) 8#32

/-- The queries of one batch row: its activations times the projection, rounded. -/
def queries (wq : Vec F S512x256 .bf16) (x : Vec F S1x128x512 .bf16) : FVec F S128x256 .bf16 :=
  truncf .bf16 (matmul dot_S128x512_S512x256_S128x256_1_0_0_1_n_n none (shapeCast S128x512 x shapeCasts_S1x128x512_S128x512)
    (shapeCast S512x256 wq shapeCasts_S512x256_S512x256) (constant S128x256 .f32 0x00000000#32)) bitsLt_bf16_f32

/-- The keys (or values) of one batch row, heads side by side. -/
def rows (k : Vec F S1x128x4x64 .bf16) : FVec F S128x256 .bf16 :=
  shapeCast S128x256 (shapeCast S128x4x64 k shapeCasts_S1x128x4x64_S128x4x64) shapeCasts_S128x4x64_S128x256

/-- Head `h`'s scores: scaled products where the pattern attends, the large negative constant elsewhere. -/
def scores (p : IVec S128x128 1) (q k : FVec F S128x256 .bf16) (h : Fin 4) : FVec F S128x128 .f32 :=
  select p
    (mulf (matmul dot_S128x64_S128x64_S128x128_1_1_0_0_n_n none (extractStridedSlice S128x64 ![0, 64 * h.val] q (sliceH h))
        (extractStridedSlice S128x64 ![0, 64 * h.val] k (sliceH h)) (constant S128x128 .f32 0x00000000#32))
      (broadcast S128x128 (Scalar.ofBits .f32 0x3E000000#32)))
    (broadcast S128x128 (Scalar.ofBits .f32 0xCE6E6B28#32))

/-- The largest score of each row. -/
def headMax (p : IVec S128x128 1) (q k : FVec F S128x256 .bf16) (h : Fin 4) : FVec F S128 .f32 :=
  multiReduction .maximumf [1] S128 (scores p q k h) 0xFF800000#32 reduces_S128x128_S128 (.inl rfl) rfl

/-- The exponentials of the scores less the row's largest. -/
def headWeights (p : IVec S128x128 1) (q k : FVec F S128x256 .bf16) (h : Fin 4) : FVec F S128x128 .f32 :=
  exp (subf (scores p q k h) (broadcastTo S128x128 (shapeCast S128x1 (headMax p q k h) shapeCasts_S128_S128x1)
    broadcasts_S128x1_S128x128))

/-- The row sums of the exponentials. -/
def headSum (p : IVec S128x128 1) (q k : FVec F S128x256 .bf16) (h : Fin 4) : FVec F S128 .f32 :=
  multiReduction .add [1] S128 (headWeights p q k h) 0x00000000#32 reduces_S128x128_S128 (.inl rfl) rfl

/-- The unnormalised context of the head: rounded exponentials times values, rounded. -/
def headCtx (p : IVec S128x128 1) (q k v : FVec F S128x256 .bf16) (h : Fin 4) : FVec F S128x64 .bf16 :=
  truncf .bf16 (matmul dot_S128x128_S128x64_S128x64_1_0_0_1_n_n none (truncf .bf16 (headWeights p q k h) bitsLt_bf16_f32)
    (extractStridedSlice S128x64 ![0, 64 * h.val] v (sliceH h)) (constant S128x64 .f32 0x00000000#32)) bitsLt_bf16_f32

/-! ## Partial results and their merge -/

/-- A partial softmax over some of the keys: each row's largest score, its sum of exponentials, its unnormalised context. -/
structure Part (F : FTy → Type) where
  mx : FVec F S2x4x128 .f32
  sm : FVec F S2x4x128 .f32
  cx : FVec F S2x4x128x64 .bf16

/-- The factor that brings a partial result with largest scores `m` to the common largest scores `m'`. -/
def factor (m m' : FVec F S2x4x128 .f32) : FVec F S2x4x128 .f32 := exp (subf m m')

/-- A row value repeated along the head's 64 columns. -/
def spread (a : FVec F S2x4x128 .f32) : FVec F S2x4x128x64 .f32 :=
  broadcastTo S2x4x128x64 (shapeCast S2x4x128x1 a shapeCasts_S2x4x128_S2x4x128x1) broadcasts_S2x4x128x1_S2x4x128x64

def mergeMax (p q : Part F) : FVec F S2x4x128 .f32 := maximumf p.mx q.mx

def mergeSum (p q : Part F) : FVec F S2x4x128 .f32 :=
  addf (mulf (factor p.mx (mergeMax p q)) p.sm) (mulf (factor q.mx (mergeMax p q)) q.sm)

/-- The merged context before it is rounded. -/
def mergeCtx (p q : Part F) : FVec F S2x4x128x64 .f32 :=
  addf (mulf (extf .f32 p.cx bitsLt_bf16_f32) (spread (factor p.mx (mergeMax p q))))
    (mulf (extf .f32 q.cx bitsLt_bf16_f32) (spread (factor q.mx (mergeMax p q))))

/-- Two partial results over disjoint sets of keys as one. -/
def merge (p q : Part F) : Part F := ⟨mergeMax p q, mergeSum p q, truncf .bf16 (mergeCtx p q) bitsLt_bf16_f32⟩

/-- The normalised context of two partial results together. -/
def normal (p q : Part F) : FVec F S2x4x128x64 .f32 := divf (mergeCtx p q) (spread (mergeSum p q))

/-- One head of one batch row lies inside a context. -/
theorem sliceO (b : Fin 2) (h : Fin 4) : S2x4x128x64.Slices ![b.val, h.val, 0, 0] S1x1x128x64 := by revert b h; decide

/-- Head `h` of batch row `b` of a normalised context. -/
def headOf (o : FVec F S2x4x128x64 .f32) (b : Fin 2) (h : Fin 4) : FVec F S128x64 .f32 :=
  shapeCast S128x64 (extractStridedSlice S1x1x128x64 ![b.val, h.val, 0, 0] o (sliceO b h)) shapeCasts_S1x1x128x64_S128x64

/-- The output rows of batch row `b`: the heads side by side, rounded, times the output projection. -/
def project (o : FVec F S2x4x128x64 .f32) (wo : Vec F S256x512 .bf16) (b : Fin 2) : FVec F S128x512 .f32 :=
  matmul dot_S128x256_S256x512_S128x512_1_0_0_1_n_n none
    (truncf .bf16 (concatenate S128x256 1 [⟨S128x64, headOf o b 0⟩, ⟨S128x64, headOf o b 1⟩, ⟨S128x64, headOf o b 2⟩, ⟨S128x64, headOf o b 3⟩]
      concatenates_S128x64_S128x64_S128x64_S128x64_S128x256_d1) bitsLt_bf16_f32)
    (shapeCast S256x512 wo shapeCasts_S256x512_S256x512) (constant S128x512 .f32 0x00000000#32)

/-! ## The blocks a device reads -/

/-- Batch row `b` lies inside the activations. -/
theorem inbX (b : Fin 2) : ∀ a, (![b.val, 0, 0] : Fin 3 → Nat) a + S1x128x512.size a ≤ S2x128x512.size a := by revert b; decide
/-- Batch row `b` lies inside a block of keys or values. -/
theorem inbK (b : Fin 2) : ∀ a, (![b.val, 0, 0, 0] : Fin 4 → Nat) a + S1x128x4x64.size a ≤ S2x128x4x64.size a := by revert b; decide

/-- Batch row `b` of the activations, of the keys and of the values; the two projections whole. -/
def rdX (x : cc0_stg0_0.ty.Contents (Elt F)) (b : Fin 2) : Vec F S1x128x512 .bf16 :=
  View.readAt (Elt F) (Memref.whole cc0_stg0_0).view (Rect.unit (s := S2x128x512) ![b.val, 0, 0] S1x128x512.size (inbX b)).toLoadRect x
def rdWq (x : cc0_stg1_0.ty.Contents (Elt F)) : Vec F S512x256 .bf16 :=
  View.readAt (Elt F) (Memref.whole cc0_stg1_0).view (Rect.unit (s := S512x256) ![0, 0] S512x256.size inb_S512x256_S512x256_0_0).toLoadRect x
def rdK (x : cc0_stg2_0.ty.Contents (Elt F)) (b : Fin 2) : Vec F S1x128x4x64 .bf16 :=
  View.readAt (Elt F) (Memref.whole cc0_stg2_0).view (Rect.unit (s := S2x128x4x64) ![b.val, 0, 0, 0] S1x128x4x64.size (inbK b)).toLoadRect x
def rdV (x : cc0_stg3_0.ty.Contents (Elt F)) (b : Fin 2) : Vec F S1x128x4x64 .bf16 :=
  View.readAt (Elt F) (Memref.whole cc0_stg3_0).view (Rect.unit (s := S2x128x4x64) ![b.val, 0, 0, 0] S1x128x4x64.size (inbK b)).toLoadRect x
def rdWo (x : cc0_stg4_0.ty.Contents (Elt F)) : Vec F S256x512 .bf16 :=
  View.readAt (Elt F) (Memref.whole cc0_stg4_0).view (Rect.unit (s := S256x512) ![0, 0] S256x512.size inb_S256x512_S256x512_0_0).toLoadRect x

/-- The five argument blocks of every device. -/
structure Args (F : FTy → Type) where
  x : Dev nD → cc0_stg0_0.ty.Contents (Elt F)
  wq : Dev nD → cc0_stg1_0.ty.Contents (Elt F)
  k : Dev nD → cc0_stg2_0.ty.Contents (Elt F)
  v : Dev nD → cc0_stg3_0.ty.Contents (Elt F)
  wo : Dev nD → cc0_stg4_0.ty.Contents (Elt F)

variable (A : Args F)

/-- Device `c`'s queries, keys and values of batch row `b`. -/
def qOf (c : Dev nD) (b : Fin 2) : FVec F S128x256 .bf16 := queries (rdWq (A.wq c)) (rdX (A.x c) b)
def kOf (c : Dev nD) (b : Fin 2) : FVec F S128x256 .bf16 := rows (rdK (A.k c) b)
def vOf (c : Dev nD) (b : Fin 2) : FVec F S128x256 .bf16 := rows (rdV (A.v c) b)

/-- Device `c`'s own partial results, head by head. -/
def ownMax (c : Dev nD) (b : Fin 2) (h : Fin 4) : FVec F S128 .f32 := headMax (pattern (rank8 c)) (qOf A c b) (kOf A c b) h
def ownSum (c : Dev nD) (b : Fin 2) (h : Fin 4) : FVec F S128 .f32 := headSum (pattern (rank8 c)) (qOf A c b) (kOf A c b) h
def ownCtx (c : Dev nD) (b : Fin 2) (h : Fin 4) : FVec F S128x64 .bf16 :=
  headCtx (pattern (rank8 c)) (qOf A c b) (kOf A c b) (vOf A c b) h

/-- Device `c`'s own partial result over all heads. -/
def own (c : Dev nD) : Part F :=
  ⟨fun i => ownMax A c (i 0) (i 1) (ix1 (i 2)), fun i => ownSum A c (i 0) (i 1) (ix1 (i 2)),
    fun i => ownCtx A c (i 0) (i 1) (ix2 (i 2) (i 3))⟩

/-- The partial results of all devices after some rounds. -/
def part1 (c : Dev nD) : Part F := merge (own A c) (own A (peer 0 c))
def part2 (c : Dev nD) : Part F := merge (part1 A c) (part1 A (peer 1 c))

/-- What device `c` sends in round `r`. -/
def part (r : Fin 3) (c : Dev nD) : Part F := match r with
  | 0 => own A c | 1 => part1 A c | 2 => part2 A c

/-- The normalised context device `c` ends with. -/
def final (c : Dev nD) : FVec F S2x4x128x64 .f32 := normal (part2 A c) (part2 A (peer 2 c))

/-- The result device `c` writes. -/
def result (c : Dev nD) : cc0_stg5_0.ty.Contents (Elt F) :=
  fun i => project (final A c) (rdWo (A.wo c)) (i 0) (ix2 (i 1) (i 2))

/-! ## The scratch buffers -/

/-- A context slot's contents from a partial result. -/
def contOf (p : Part F) : cc0_scratch0.ty.Contents (Elt F) := fun i => p.cx (ix4 (i 1) (i 2) (i 3) (i 4))
/-- A statistics slot's contents from a partial result: largest scores first, then sums. -/
def statOf (p : Part F) : cc0_scratch2.ty.Contents (Elt F) :=
  fun i => if (i 1).val = 0 then p.mx (ix3 (i 2) (i 3) (i 4)) else p.sm (ix3 (i 2) (i 3) (i 4))

/-- The contents the exchange moves. -/
def cont (r : Fin 3) (c : Dev nD) : cc0_scratch0.ty.Contents (Elt F) := contOf (part A r c)
def stat (r : Fin 3) (c : Dev nD) : cc0_scratch2.ty.Contents (Elt F) := statOf (part A r c)

/-! ## The merge as the kernel spells it -/

/-- A partial result's three parts as the buffers' slots show them. -/
def vMx (p : Part F) : FVec F S1x1x2x4x128 .f32 := shapeCast S1x1x2x4x128 p.mx shapeCasts_S2x4x128_S1x1x2x4x128
def vSm (p : Part F) : FVec F S1x1x2x4x128 .f32 := shapeCast S1x1x2x4x128 p.sm shapeCasts_S2x4x128_S1x1x2x4x128
def vCx (p : Part F) : FVec F S1x2x4x128x64 .bf16 := shapeCast S1x2x4x128x64 p.cx shapeCasts_S2x4x128x64_S1x2x4x128x64

/-- The maxima, laid out as in their slot and read back, are the maxima. -/
theorem un_vMx (p : Part F) : shapeCast S2x4x128 (vMx p) shapeCasts_S1x1x2x4x128_S2x4x128 = p.mx := shapeCast_shapeCast _ _ _
/-- The sums, laid out as in their slot and read back, are the sums. -/
theorem un_vSm (p : Part F) : shapeCast S2x4x128 (vSm p) shapeCasts_S1x1x2x4x128_S2x4x128 = p.sm := shapeCast_shapeCast _ _ _
/-- The context, laid out as in its slot and read back, is the context. -/
theorem un_vCx (p : Part F) : shapeCast S2x4x128x64 (vCx p) shapeCasts_S1x2x4x128x64_S2x4x128x64 = p.cx := shapeCast_shapeCast _ _ _

/-- Round 0: the device's own maxima, as read. -/
theorem pay78_eq (p : Part F) : k0_pay78 (vMx p) = p.mx := un_vMx p
/-- Round 0: the larger maxima are the merged ones. -/
theorem pay80_eq (p q : Part F) : k0_pay80 p.mx (vMx q) = mergeMax p q := by
  unfold k0_pay80 k0_pay79; dsimp only; rw [un_vMx]; rfl
/-- Round 0: the rescaled sums added are the merged sums. -/
theorem pay83_eq (p q : Part F) : k0_pay83 p.mx (vSm p) (vMx q) (vSm q) = mergeSum p q := by
  unfold k0_pay83 k0_pay81 k0_pay82; dsimp only; rw [pay80_eq]; unfold k0_pay79; dsimp only; rw [un_vMx, un_vSm, un_vSm]; rfl
/-- Round 0: the rescaled contexts added are the merged context. -/
theorem pay84_eq (p q : Part F) : k0_pay84 p.mx (vMx q) (vCx p) (vCx q) = (merge p q).cx := by
  unfold k0_pay84 k0_pay81 k0_pay82; dsimp only; rw [pay80_eq]; unfold k0_pay79; dsimp only; rw [un_vMx, un_vCx, un_vCx]; rfl
/-- Round 0: the merged context as it is stored. -/
theorem pay85_eq (p : Part F) : k0_pay85 p.cx = vCx p := rfl
/-- Round 0: the merged maxima as they are stored. -/
theorem pay86_eq (p q : Part F) : k0_pay86 (mergeMax p q) = vMx (merge p q) := rfl
/-- Round 0: the merged sums as they are stored. -/
theorem pay87_eq (p q : Part F) : k0_pay87 (mergeSum p q) = vSm (merge p q) := rfl

/-- Round 1: the device's own maxima, as read. -/
theorem pay88_eq (p : Part F) : k0_pay88 (vMx p) = p.mx := un_vMx p
/-- Round 1: the device's own sums, as read. -/
theorem pay89_eq (p : Part F) : k0_pay89 (vSm p) = p.sm := un_vSm p
/-- Round 1: the partner's maxima, as read. -/
theorem pay90_eq (p : Part F) : k0_pay90 (vMx p) = p.mx := un_vMx p
/-- Round 1: the rescaled sums added are the merged sums. -/
theorem pay94_eq (p q : Part F) : k0_pay94 p.mx p.sm q.mx (vSm q) = mergeSum p q := by
  unfold k0_pay94; dsimp only; rw [un_vSm]; rfl
/-- Round 1: the rescaled contexts added are the merged context, as it is stored. -/
theorem pay95_eq (p q : Part F) : k0_pay95 p.mx q.mx (vCx p) (vCx q) = vCx (merge p q) := by
  unfold k0_pay95; dsimp only; rw [un_vCx, un_vCx]; rfl
/-- Round 1: the larger maxima are the merged ones, as they are stored. -/
theorem pay96_eq (p q : Part F) : k0_pay96 p.mx q.mx = vMx (merge p q) := rfl
/-- Round 1: the merged sums as they are stored. -/
theorem pay97_eq (p q : Part F) : k0_pay97 (mergeSum p q) = vSm (merge p q) := rfl

/-- Round 2: the factor that rescales the device's own part. -/
theorem pay101_eq (p q : Part F) : k0_pay101 (vMx p) (vMx q) = factor p.mx (mergeMax p q) := by
  unfold k0_pay101 k0_pay100 k0_pay98 k0_pay99; dsimp only; rw [un_vMx, un_vMx]; rfl
/-- Round 2: the factor that rescales the partner's part. -/
theorem pay102_eq (p q : Part F) : k0_pay102 (vMx p) (vMx q) = factor q.mx (mergeMax p q) := by
  unfold k0_pay102 k0_pay100 k0_pay98 k0_pay99; dsimp only; rw [un_vMx, un_vMx]; rfl
/-- Round 2: the rescaled sums added are the merged sums. -/
theorem pay103_eq (p q : Part F) : k0_pay103 (vMx p) (vSm p) (vMx q) (vSm q) = mergeSum p q := by
  unfold k0_pay103; dsimp only; rw [pay101_eq, pay102_eq, un_vSm, un_vSm]; rfl
/-- Round 2: the merged context over the merged sums is the normalised context. -/
theorem pay104_eq (p q : Part F) : k0_pay104 (factor p.mx (mergeMax p q)) (factor q.mx (mergeMax p q)) (mergeSum p q) (vCx p) (vCx q)
    = normal p q := by
  unfold k0_pay104; dsimp only; rw [un_vCx, un_vCx]; rfl

/-- A projected batch row as the result buffer shows it. -/
def vRow (o : FVec F S128x512 .f32) : FVec F S1x128x512 .f32 := shapeCast S1x128x512 o shapeCasts_S128x512_S1x128x512

/-- The output of batch row 0, as it is stored. -/
theorem pay106_eq (p q : Part F) (wo : Vec F S256x512 .bf16) :
    k0_pay106 (factor p.mx (mergeMax p q)) (factor q.mx (mergeMax p q)) (mergeSum p q) (vCx p) (vCx q) wo
      = vRow (project (normal p q) wo 0) := by
  unfold k0_pay106; dsimp only; rw [pay104_eq]; rfl
/-- The output of batch row 1. -/
theorem pay107_eq (p q : Part F) (wo : Vec F S256x512 .bf16) :
    k0_pay107 (factor p.mx (mergeMax p q)) (factor q.mx (mergeMax p q)) (mergeSum p q) (vCx p) (vCx q) wo
      = project (normal p q) wo 1 := by
  unfold k0_pay107; dsimp only; rw [pay104_eq]; rfl
/-- An output row as it is stored. -/
theorem pay1_eq (o : FVec F S128x512 .f32) : k0_pay1 o = vRow o := rfl

/-! ## Slots and pieces of the scratch buffers -/

attribute [local irreducible] headMax headSum headCtx

/-- One half of a statistics slot lies inside the buffer. -/
theorem inbM (r : Fin 3) (w : Fin 2) : ∀ a, (![r.val, w.val, 0, 0, 0] : Fin 5 → Nat) a + S1x1x2x4x128.size a ≤ S3x2x2x4x128.size a := by
  revert r w; decide
/-- The rows of one head lie inside slot 0 of a context buffer. -/
theorem inbHC (b : Fin 2) (h : Fin 4) : ∀ a, (![0, b.val, h.val, 0, 0] : Fin 5 → Nat) a + S1x1x1x128x64.size a ≤ S3x2x4x128x64.size a := by
  revert b h; decide
/-- The maxima or sums of one head lie inside slot 0 of a statistics buffer. -/
theorem inbHS (w b : Fin 2) (h : Fin 4) :
    ∀ a, (![0, w.val, b.val, h.val, 0] : Fin 5 → Nat) a + S1x1x1x1x128.size a ≤ S3x2x2x4x128.size a := by
  revert w b h; decide

/-- Slot `r` of a context buffer, slot `r` of a statistics buffer, one of the two halves of the latter, one head's rows. -/
abbrev rectC (r : Fin 3) : Rect S3x2x4x128x64 := Rect.unit (s := S3x2x4x128x64) ![r.val, 0, 0, 0, 0] S1x2x4x128x64.size (inbC r)
abbrev rectS (r : Fin 3) : Rect S3x2x2x4x128 := Rect.unit (s := S3x2x2x4x128) ![r.val, 0, 0, 0, 0] S1x2x2x4x128.size (inbS r)
abbrev rectM (r : Fin 3) (w : Fin 2) : Rect S3x2x2x4x128 :=
  Rect.unit (s := S3x2x2x4x128) ![r.val, w.val, 0, 0, 0] S1x1x2x4x128.size (inbM r w)
abbrev rectHC (b : Fin 2) (h : Fin 4) : Rect S3x2x4x128x64 :=
  Rect.unit (s := S3x2x4x128x64) ![0, b.val, h.val, 0, 0] S1x1x1x128x64.size (inbHC b h)
abbrev rectHS (w b : Fin 2) (h : Fin 4) : Rect S3x2x2x4x128 :=
  Rect.unit (s := S3x2x2x4x128) ![0, w.val, b.val, h.val, 0] S1x1x1x1x128.size (inbHS w b h)

/-- The elements of slot `r` of the device's own context buffer. -/
theorem set_slotC (r : Fin 3) : (slotC cM r).view.set = (rectC r).set := by
  rw [View.set_reshape, View.set_slice_whole]
/-- The elements of slot `r` of the received contexts. -/
theorem set_slotCr (r : Fin 3) : (slotC crM r).view.set = (rectC r).set := by
  rw [View.set_reshape, View.set_slice_whole]
/-- The elements of slot `r` of the device's own statistics buffer. -/
theorem set_slotS (r : Fin 3) : (slotS sM r).view.set = (rectS r).set := by
  rw [View.set_reshape, View.set_slice_whole]
/-- The elements of slot `r` of the received statistics. -/
theorem set_slotSr (r : Fin 3) : (slotS srM r).view.set = (rectS r).set := by
  rw [View.set_reshape, View.set_slice_whole]

/-- Slot contents, statistics halves and single heads are pieces of the buffers' contents. -/
theorem vCx_piece (r : Fin 3) (p : Part F) (x : (rectC r).shape.Idx) : vCx p x = contOf p ((rectC r).emb x) := by
  have h0 : (x 0).val < 1 := (x 0).isLt
  refine shapeCast_apply p.cx _ x (ix4 ((rectC r).emb x 1) ((rectC r).emb x 2) ((rectC r).emb x 3) ((rectC r).emb x 4)) ?_
  rw [Shape.rowMajor_val_four, Shape.rowMajor_val_five]
  show (((0 + 1 * (x 1).val) * 4 + (0 + 1 * (x 2).val)) * 128 + (0 + 1 * (x 3).val)) * 64 + (0 + 1 * (x 4).val)
    = ((((x 0).val * 2 + (x 1).val) * 4 + (x 2).val) * 128 + (x 3).val) * 64 + (x 4).val
  omega

/-- The stored maxima are the first half of the slot's contents. -/
theorem vMx_piece (r : Fin 3) (p : Part F) (x : (rectM r 0).shape.Idx) : vMx p x = statOf p ((rectM r 0).emb x) := by
  have h0 : (x 0).val < 1 := (x 0).isLt
  have h1 : (x 1).val < 1 := (x 1).isLt
  have e1 : ((rectM r 0).emb x 1).val = 0 := by show 0 + 1 * (x 1).val = 0; omega
  unfold statOf
  rw [if_pos e1]
  refine shapeCast_apply p.mx _ x (ix3 ((rectM r 0).emb x 2) ((rectM r 0).emb x 3) ((rectM r 0).emb x 4)) ?_
  rw [Shape.rowMajor_val_three, Shape.rowMajor_val_five]
  show ((0 + 1 * (x 2).val) * 4 + (0 + 1 * (x 3).val)) * 128 + (0 + 1 * (x 4).val)
    = ((((x 0).val * 1 + (x 1).val) * 2 + (x 2).val) * 4 + (x 3).val) * 128 + (x 4).val
  omega

/-- The stored sums are the second half of the slot's contents. -/
theorem vSm_piece (r : Fin 3) (p : Part F) (x : (rectM r 1).shape.Idx) : vSm p x = statOf p ((rectM r 1).emb x) := by
  have h0 : (x 0).val < 1 := (x 0).isLt
  have h1 : (x 1).val < 1 := (x 1).isLt
  have e1 : ((rectM r 1).emb x 1).val ≠ 0 := by show 1 + 1 * (x 1).val ≠ 0; omega
  unfold statOf
  rw [if_neg e1]
  refine shapeCast_apply p.sm _ x (ix3 ((rectM r 1).emb x 2) ((rectM r 1).emb x 3) ((rectM r 1).emb x 4)) ?_
  rw [Shape.rowMajor_val_three, Shape.rowMajor_val_five]
  show ((0 + 1 * (x 2).val) * 4 + (0 + 1 * (x 3).val)) * 128 + (0 + 1 * (x 4).val)
    = ((((x 0).val * 1 + (x 1).val) * 2 + (x 2).val) * 4 + (x 3).val) * 128 + (x 4).val
  omega

/-- The stored context of one head is its part of what round 0 sends. -/
theorem ownCtx_piece (c : Dev nD) (b : Fin 2) (h : Fin 4) (x : (rectHC b h).shape.Idx) :
    shapeCast S1x1x1x128x64 (ownCtx A c b h) shapeCasts_S128x64_S1x1x1x128x64 x = cont A 0 c ((rectHC b h).emb x) := by
  have h0 : (x 0).val < 1 := (x 0).isLt
  have h1 : (x 1).val < 1 := (x 1).isLt
  have h2 : (x 2).val < 1 := (x 2).isLt
  have e1 : (rectHC b h).emb x 1 = b := Fin.ext (by show b.val + 1 * (x 1).val = b.val; omega)
  have e2 : (rectHC b h).emb x 2 = h := Fin.ext (by show h.val + 1 * (x 2).val = h.val; omega)
  show _ = ownCtx A c ((rectHC b h).emb x 1) ((rectHC b h).emb x 2) (ix2 ((rectHC b h).emb x 3) ((rectHC b h).emb x 4))
  rw [e1, e2]
  refine shapeCast_apply (ownCtx A c b h) _ x (ix2 ((rectHC b h).emb x 3) ((rectHC b h).emb x 4)) ?_
  rw [Shape.rowMajor_val_two, Shape.rowMajor_val_five]
  show (0 + 1 * (x 3).val) * 64 + (0 + 1 * (x 4).val)
    = ((((x 0).val * 1 + (x 1).val) * 1 + (x 2).val) * 128 + (x 3).val) * 64 + (x 4).val
  omega

/-- The maxima that round 0 sends, at a place. -/
theorem own_mx (c : Dev nD) (a : Fin 2) (b : Fin 4) (d : Fin 128) : (part A 0 c).mx (ix3 a b d) = ownMax A c a b (ix1 d) := by
  have h : ∀ j : S2x4x128.Idx, (part A 0 c).mx j = ownMax A c (j 0) (j 1) (ix1 (j 2)) := fun j => rfl
  exact h (ix3 a b d)
/-- The first half of the statistics that round 0 sends holds the device's own maxima. -/
theorem stat_ownMax (c : Dev nD) (i : S3x2x2x4x128.Idx) (h : (i 1).val = 0) :
    stat A 0 c i = ownMax A c (i 2) (i 3) (ix1 (i 4)) := by
  unfold stat statOf; rw [if_pos h]; exact own_mx A c _ _ _
/-- The second half of the statistics that round 0 sends holds the device's own sums. -/
theorem stat_ownSum (c : Dev nD) (i : S3x2x2x4x128.Idx) (h : (i 1).val ≠ 0) :
    stat A 0 c i = ownSum A c (i 2) (i 3) (ix1 (i 4)) := by
  unfold stat statOf; rw [if_neg h]; rfl

/-- The stored maxima of one head are their part of what round 0 sends. -/
theorem ownMax_piece (c : Dev nD) (b : Fin 2) (h : Fin 4) (x : (rectHS 0 b h).shape.Idx) :
    shapeCast S1x1x1x1x128 (ownMax A c b h) shapeCasts_S128_S1x1x1x1x128 x = stat A 0 c ((rectHS 0 b h).emb x) := by
  have h0 : (x 0).val < 1 := (x 0).isLt
  have h1 : (x 1).val < 1 := (x 1).isLt
  have h2 : (x 2).val < 1 := (x 2).isLt
  have h3 : (x 3).val < 1 := (x 3).isLt
  have e1 : ((rectHS 0 b h).emb x 1).val = 0 := by show 0 + 1 * (x 1).val = 0; omega
  have e2 : (rectHS 0 b h).emb x 2 = b := Fin.ext (by show b.val + 1 * (x 2).val = b.val; omega)
  have e3 : (rectHS 0 b h).emb x 3 = h := Fin.ext (by show h.val + 1 * (x 3).val = h.val; omega)
  rw [stat_ownMax A c _ e1, e2, e3]
  refine shapeCast_apply (ownMax A c b h) _ x (ix1 ((rectHS 0 b h).emb x 4)) ?_
  rw [Shape.rowMajor_val_one, Shape.rowMajor_val_five]
  show 0 + 1 * (x 4).val = ((((x 0).val * 1 + (x 1).val) * 1 + (x 2).val) * 1 + (x 3).val) * 128 + (x 4).val
  omega

/-- The stored sums of one head are their part of what round 0 sends. -/
theorem ownSum_piece (c : Dev nD) (b : Fin 2) (h : Fin 4) (x : (rectHS 1 b h).shape.Idx) :
    shapeCast S1x1x1x1x128 (ownSum A c b h) shapeCasts_S128_S1x1x1x1x128 x = stat A 0 c ((rectHS 1 b h).emb x) := by
  have h0 : (x 0).val < 1 := (x 0).isLt
  have h1 : (x 1).val < 1 := (x 1).isLt
  have h2 : (x 2).val < 1 := (x 2).isLt
  have h3 : (x 3).val < 1 := (x 3).isLt
  have e1 : ((rectHS 1 b h).emb x 1).val ≠ 0 := by show 1 + 1 * (x 1).val ≠ 0; omega
  have e2 : (rectHS 1 b h).emb x 2 = b := Fin.ext (by show b.val + 1 * (x 2).val = b.val; omega)
  have e3 : (rectHS 1 b h).emb x 3 = h := Fin.ext (by show h.val + 1 * (x 3).val = h.val; omega)
  rw [stat_ownSum A c _ e1, e2, e3]
  refine shapeCast_apply (ownSum A c b h) _ x (ix1 ((rectHS 1 b h).emb x 4)) ?_
  rw [Shape.rowMajor_val_one, Shape.rowMajor_val_five]
  show 0 + 1 * (x 4).val = ((((x 0).val * 1 + (x 1).val) * 1 + (x 2).val) * 1 + (x 3).val) * 128 + (x 4).val
  omega

/-! ### Which indices a piece covers -/

/-- An index lies in slot `r` of a context buffer when its first coordinate is `r`. -/
theorem mem_rectC {r : Fin 3} {i : S3x2x4x128x64.Idx} : i ∈ (rectC r).set ↔ (i 0).val = r.val := by
  rw [Rect.mem_set_unit]
  constructor
  · intro h
    have := h 0
    change r.val ≤ (i 0).val ∧ (i 0).val < r.val + 1 at this
    omega
  · intro h a
    have h1 : (i 1).val < 2 := (i 1).isLt
    have h2 : (i 2).val < 4 := (i 2).isLt
    have h3 : (i 3).val < 128 := (i 3).isLt
    have h4 : (i 4).val < 64 := (i 4).isLt
    match a with
    | ⟨0, _⟩ => exact ⟨h.ge, by show (i 0).val < r.val + 1; omega⟩
    | ⟨1, _⟩ => exact ⟨Nat.zero_le _, by show (i 1).val < 0 + 2; omega⟩
    | ⟨2, _⟩ => exact ⟨Nat.zero_le _, by show (i 2).val < 0 + 4; omega⟩
    | ⟨3, _⟩ => exact ⟨Nat.zero_le _, by show (i 3).val < 0 + 128; omega⟩
    | ⟨4, _⟩ => exact ⟨Nat.zero_le _, by show (i 4).val < 0 + 64; omega⟩

/-- An index lies in slot `r` of a statistics buffer when its first coordinate is `r`. -/
theorem mem_rectS {r : Fin 3} {i : S3x2x2x4x128.Idx} : i ∈ (rectS r).set ↔ (i 0).val = r.val := by
  rw [Rect.mem_set_unit]
  constructor
  · intro h
    have := h 0
    change r.val ≤ (i 0).val ∧ (i 0).val < r.val + 1 at this
    omega
  · intro h a
    have h1 : (i 1).val < 2 := (i 1).isLt
    have h2 : (i 2).val < 2 := (i 2).isLt
    have h3 : (i 3).val < 4 := (i 3).isLt
    have h4 : (i 4).val < 128 := (i 4).isLt
    match a with
    | ⟨0, _⟩ => exact ⟨h.ge, by show (i 0).val < r.val + 1; omega⟩
    | ⟨1, _⟩ => exact ⟨Nat.zero_le _, by show (i 1).val < 0 + 2; omega⟩
    | ⟨2, _⟩ => exact ⟨Nat.zero_le _, by show (i 2).val < 0 + 2; omega⟩
    | ⟨3, _⟩ => exact ⟨Nat.zero_le _, by show (i 3).val < 0 + 4; omega⟩
    | ⟨4, _⟩ => exact ⟨Nat.zero_le _, by show (i 4).val < 0 + 128; omega⟩

/-- An index lies in half `w` of slot `r` when its first two coordinates are `r` and `w`. -/
theorem mem_rectM {r : Fin 3} {w : Fin 2} {i : S3x2x2x4x128.Idx} :
    i ∈ (rectM r w).set ↔ (i 0).val = r.val ∧ (i 1).val = w.val := by
  rw [Rect.mem_set_unit]
  constructor
  · intro h
    have h0 := h 0
    have h1 := h 1
    change r.val ≤ (i 0).val ∧ (i 0).val < r.val + 1 at h0
    change w.val ≤ (i 1).val ∧ (i 1).val < w.val + 1 at h1
    omega
  · rintro ⟨h, h'⟩ a
    have h2 : (i 2).val < 2 := (i 2).isLt
    have h3 : (i 3).val < 4 := (i 3).isLt
    have h4 : (i 4).val < 128 := (i 4).isLt
    match a with
    | ⟨0, _⟩ => exact ⟨h.ge, by show (i 0).val < r.val + 1; omega⟩
    | ⟨1, _⟩ => exact ⟨h'.ge, by show (i 1).val < w.val + 1; omega⟩
    | ⟨2, _⟩ => exact ⟨Nat.zero_le _, by show (i 2).val < 0 + 2; omega⟩
    | ⟨3, _⟩ => exact ⟨Nat.zero_le _, by show (i 3).val < 0 + 4; omega⟩
    | ⟨4, _⟩ => exact ⟨Nat.zero_le _, by show (i 4).val < 0 + 128; omega⟩

/-- An index of slot 0 lies in the rows of the head that it names. -/
theorem mem_rectHC {b : Fin 2} {h : Fin 4} {i : S3x2x4x128x64.Idx} (h0 : (i 0).val = 0) (h1 : (i 1).val = b.val)
    (h2 : (i 2).val = h.val) : i ∈ (rectHC b h).set := by
  rw [Rect.mem_set_unit]
  intro a
  have h3 : (i 3).val < 128 := (i 3).isLt
  have h4 : (i 4).val < 64 := (i 4).isLt
  match a with
  | ⟨0, _⟩ => exact ⟨Nat.zero_le _, by show (i 0).val < 0 + 1; omega⟩
  | ⟨1, _⟩ => exact ⟨h1.ge, by show (i 1).val < b.val + 1; omega⟩
  | ⟨2, _⟩ => exact ⟨h2.ge, by show (i 2).val < h.val + 1; omega⟩
  | ⟨3, _⟩ => exact ⟨Nat.zero_le _, by show (i 3).val < 0 + 128; omega⟩
  | ⟨4, _⟩ => exact ⟨Nat.zero_le _, by show (i 4).val < 0 + 64; omega⟩

/-- An index of slot 0 lies in the maxima or sums of the head that it names. -/
theorem mem_rectHS {w b : Fin 2} {h : Fin 4} {i : S3x2x2x4x128.Idx} (h0 : (i 0).val = 0) (h1 : (i 1).val = w.val)
    (h2 : (i 2).val = b.val) (h3 : (i 3).val = h.val) : i ∈ (rectHS w b h).set := by
  rw [Rect.mem_set_unit]
  intro a
  have h4 : (i 4).val < 128 := (i 4).isLt
  match a with
  | ⟨0, _⟩ => exact ⟨Nat.zero_le _, by show (i 0).val < 0 + 1; omega⟩
  | ⟨1, _⟩ => exact ⟨h1.ge, by show (i 1).val < w.val + 1; omega⟩
  | ⟨2, _⟩ => exact ⟨h2.ge, by show (i 2).val < b.val + 1; omega⟩
  | ⟨3, _⟩ => exact ⟨h3.ge, by show (i 3).val < h.val + 1; omega⟩
  | ⟨4, _⟩ => exact ⟨Nat.zero_le _, by show (i 4).val < 0 + 128; omega⟩

/-! ### Reads of a slot, and what stores leave in it -/

/-- An index of a rectangle, placed in the buffer, is one of the rectangle's elements. -/
theorem emb_mem {s : Shape} (R : Rect s) (x : R.shape.Idx) : R.emb x ∈ R.set := by
  rw [← Rect.map_emb_univ]; exact Finset.mem_map_of_mem _ (Finset.mem_univ x)

/-- A read of a slot that holds a context gives the context. -/
theorem rdCx (r : Fin 3) (f : cc0_scratch0.ty.Contents (Elt F)) (p : Part F)
    (h : ∀ i ∈ (rectC r).set, f i = contOf p i) : View.readAt (Elt F) cM.view (rectC r).toLoadRect f = vCx p := by
  funext x
  rw [vCx_piece r]
  exact h _ (emb_mem _ x)
/-- A read of a received context gives the context. -/
theorem rdCxr (r : Fin 3) (f : cc0_scratch1.ty.Contents (Elt F)) (p : Part F)
    (h : ∀ i ∈ (rectC r).set, f i = contOf p i) : View.readAt (Elt F) crM.view (rectC r).toLoadRect f = vCx p := by
  funext x
  rw [vCx_piece r]
  exact h _ (emb_mem _ x)

/-- Each half of a statistics slot lies in the slot. -/
theorem rectM_sub (r : Fin 3) (w : Fin 2) : (rectM r w).set ⊆ (rectS r).set := fun i hi =>
  mem_rectS.2 (mem_rectM.1 hi).1

/-- A read of the first half of a statistics slot gives the maxima. -/
theorem rdMx (r : Fin 3) (f : cc0_scratch2.ty.Contents (Elt F)) (p : Part F)
    (h : ∀ i ∈ (rectS r).set, f i = statOf p i) : View.readAt (Elt F) sM.view (rectM r 0).toLoadRect f = vMx p := by
  funext x
  rw [vMx_piece r]
  exact h _ (rectM_sub r 0 (emb_mem _ x))
/-- A read of its second half gives the sums. -/
theorem rdSm (r : Fin 3) (f : cc0_scratch2.ty.Contents (Elt F)) (p : Part F)
    (h : ∀ i ∈ (rectS r).set, f i = statOf p i) : View.readAt (Elt F) sM.view (rectM r 1).toLoadRect f = vSm p := by
  funext x
  rw [vSm_piece r]
  exact h _ (rectM_sub r 1 (emb_mem _ x))
/-- A read of the first half of received statistics gives the maxima. -/
theorem rdMxr (r : Fin 3) (f : cc0_scratch3.ty.Contents (Elt F)) (p : Part F)
    (h : ∀ i ∈ (rectS r).set, f i = statOf p i) : View.readAt (Elt F) srM.view (rectM r 0).toLoadRect f = vMx p := by
  funext x
  rw [vMx_piece r]
  exact h _ (rectM_sub r 0 (emb_mem _ x))
/-- A read of their second half gives the sums. -/
theorem rdSmr (r : Fin 3) (f : cc0_scratch3.ty.Contents (Elt F)) (p : Part F)
    (h : ∀ i ∈ (rectS r).set, f i = statOf p i) : View.readAt (Elt F) srM.view (rectM r 1).toLoadRect f = vSm p := by
  funext x
  rw [vSm_piece r]
  exact h _ (rectM_sub r 1 (emb_mem _ x))

/-- Stores through a whole buffer whose pieces all come from `G` leave `G` wherever a piece reaches. -/
theorem writes_agree (b : Ref sig .tc) (f G : b.ty.Contents (Elt F)) (L : List (View.Piece (Elt F) b.ty.shape b.ty.elt))
    (hG : ∀ p ∈ L, ∀ x : p.1.shape.Idx, p.2 x = G (p.1.emb x)) (i : b.ty.Idx) (hi : ∃ p ∈ L, i ∈ p.1.set) :
    (View.whole b).writes (Elt F) f L i = G i := by
  have h := View.read_writes_apply_of_pieces (View.whole b) f G L hG i hi
  rwa [View.read_whole] at h

/-- Storing a merged context in slot `r` leaves the slot with it. -/
theorem stCx (r : Fin 3) (f : cc0_scratch0.ty.Contents (Elt F)) (p : Part F) :
    ∀ i ∈ (rectC r).set, cM.view.writes (Elt F) f [⟨rectC r, vCx p⟩] i = contOf p i := fun i hi =>
  writes_agree cc0_scratch0 f (contOf p) [⟨rectC r, vCx p⟩]
    (by intro q hq x; rw [List.mem_singleton] at hq; subst hq; exact vCx_piece r p x)
    i ⟨_, List.mem_singleton_self _, hi⟩

/-- Storing the two halves of merged statistics in slot `r` leaves the slot with them. -/
theorem stSt (r : Fin 3) (f : cc0_scratch2.ty.Contents (Elt F)) (p : Part F) :
    ∀ i ∈ (rectS r).set, sM.view.writes (Elt F) f [⟨rectM r 1, vSm p⟩, ⟨rectM r 0, vMx p⟩] i = statOf p i := fun i hi =>
  writes_agree cc0_scratch2 f (statOf p) [⟨rectM r 1, vSm p⟩, ⟨rectM r 0, vMx p⟩]
    (by
      intro q hq x
      rcases List.mem_cons.1 hq with rfl | hq
      · exact vSm_piece r p x
      · rw [List.mem_singleton] at hq; subst hq; exact vMx_piece r p x)
    i (by
      have h0 := mem_rectS.1 hi
      have h1 : (i 1).val < 2 := (i 1).isLt
      by_cases h : (i 1).val = 0
      · exact ⟨_, List.mem_cons_of_mem _ (List.mem_singleton_self _), mem_rectM.2 ⟨h0, h⟩⟩
      · exact ⟨_, List.mem_cons_self, mem_rectM.2 ⟨h0, by show (i 1).val = 1; omega⟩⟩)

/-- The eight stores of the heads' contexts, last first. -/
def piecesC (c : Dev nD) : List (View.Piece (Elt F) S3x2x4x128x64 .bf16) :=
  [(1, 3), (1, 2), (1, 1), (1, 0), (0, 3), (0, 2), (0, 1), (0, 0)].map fun bh : Fin 2 × Fin 4 =>
    ⟨rectHC bh.1 bh.2, shapeCast S1x1x1x128x64 (ownCtx A c bh.1 bh.2) shapeCasts_S128x64_S1x1x1x128x64⟩

/-- The sixteen stores of the heads' statistics, last first. -/
def piecesS (c : Dev nD) : List (View.Piece (Elt F) S3x2x2x4x128 .f32) :=
  [(1, 3), (1, 2), (1, 1), (1, 0), (0, 3), (0, 2), (0, 1), (0, 0)].flatMap fun bh : Fin 2 × Fin 4 =>
    [⟨rectHS 1 bh.1 bh.2, shapeCast S1x1x1x1x128 (ownSum A c bh.1 bh.2) shapeCasts_S128_S1x1x1x1x128⟩,
      ⟨rectHS 0 bh.1 bh.2, shapeCast S1x1x1x1x128 (ownMax A c bh.1 bh.2) shapeCasts_S128_S1x1x1x1x128⟩]

/-- The eight stores name every batch row and head. -/
theorem all_heads : ∀ p : Fin 2 × Fin 4,
    p ∈ ([(1, 3), (1, 2), (1, 1), (1, 0), (0, 3), (0, 2), (0, 1), (0, 0)] : List (Fin 2 × Fin 4)) := by decide

/-- The device's own results in slot 0 after those stores. -/
theorem stOwnC (c : Dev nD) (f : cc0_scratch0.ty.Contents (Elt F)) :
    ∀ i ∈ (rectC 0).set, cM.view.writes (Elt F) f (piecesC A c) i = cont A 0 c i := fun i hi =>
  writes_agree cc0_scratch0 f (cont A 0 c) (piecesC A c)
    (by
      intro q hq x
      obtain ⟨bh, -, rfl⟩ := List.mem_map.1 hq
      exact ownCtx_piece A c bh.1 bh.2 x)
    i ⟨_, List.mem_map.2 ⟨(i 1, i 2), all_heads _, rfl⟩, mem_rectHC (mem_rectC.1 hi) rfl rfl⟩

/-- The device's own statistics in slot 0 after their stores. -/
theorem stOwnS (c : Dev nD) (f : cc0_scratch2.ty.Contents (Elt F)) :
    ∀ i ∈ (rectS 0).set, sM.view.writes (Elt F) f (piecesS A c) i = stat A 0 c i := fun i hi =>
  writes_agree cc0_scratch2 f (stat A 0 c) (piecesS A c)
    (by
      intro q hq x
      obtain ⟨bh, -, hq⟩ := List.mem_flatMap.1 hq
      rcases List.mem_cons.1 hq with rfl | hq
      · exact ownSum_piece A c bh.1 bh.2 x
      · rw [List.mem_singleton] at hq; subst hq; exact ownMax_piece A c bh.1 bh.2 x)
    i (by
      have h0 := mem_rectS.1 hi
      have h1 : (i 1).val < 2 := (i 1).isLt
      by_cases h : (i 1).val = 0
      · exact ⟨_, List.mem_flatMap.2 ⟨(i 2, i 3), all_heads _, List.mem_cons_of_mem _ (List.mem_singleton_self _)⟩,
          mem_rectHS h0 h rfl rfl⟩
      · exact ⟨_, List.mem_flatMap.2 ⟨(i 2, i 3), all_heads _, List.mem_cons_self⟩,
          mem_rectHS h0 (by show (i 1).val = 1; omega) rfl rfl⟩)

/-! ### The result buffer -/

/-- Batch row `b` lies inside the result buffer. -/
theorem inbO (b : Fin 2) : ∀ a, (![b.val, 0, 0] : Fin 3 → Nat) a + S1x128x512.size a ≤ S2x128x512.size a := by revert b; decide

/-- Batch row `b` of the result buffer. -/
abbrev rectO (b : Fin 2) : Rect S2x128x512 := Rect.unit (s := S2x128x512) ![b.val, 0, 0] S1x128x512.size (inbO b)

/-- A stored output row is its part of the result. -/
theorem vRow_piece (c : Dev nD) (b : Fin 2) (x : (rectO b).shape.Idx) :
    vRow (project (final A c) (rdWo (A.wo c)) b) x = result A c ((rectO b).emb x) := by
  have h0 : (x 0).val < 1 := (x 0).isLt
  have e0 : (rectO b).emb x 0 = b := Fin.ext (by show b.val + 1 * (x 0).val = b.val; omega)
  unfold result
  rw [e0]
  generalize project (final A c) (rdWo (A.wo c)) b = o
  refine shapeCast_apply o _ x (ix2 ((rectO b).emb x 1) ((rectO b).emb x 2)) ?_
  rw [Shape.rowMajor_val_two, Shape.rowMajor_val_three]
  show (0 + 1 * (x 1).val) * 512 + (0 + 1 * (x 2).val) = ((x 0).val * 128 + (x 1).val) * 512 + (x 2).val
  omega

/-- The two stored output rows leave the result in the result buffer. -/
theorem stOut (c : Dev nD) (f : cc0_stg5_0.ty.Contents (Elt F)) :
    (Memref.whole cc0_stg5_0).view.writes (Elt F) f [⟨rectO 1, vRow (project (final A c) (rdWo (A.wo c)) 1)⟩,
      ⟨rectO 0, vRow (project (final A c) (rdWo (A.wo c)) 0)⟩] = result A c :=
  funext fun i => writes_agree cc0_stg5_0 f (result A c) [⟨rectO 1, vRow (project (final A c) (rdWo (A.wo c)) 1)⟩,
      ⟨rectO 0, vRow (project (final A c) (rdWo (A.wo c)) 0)⟩]
    (by
      intro q hq x
      rcases List.mem_cons.1 hq with rfl | hq
      · exact vRow_piece A c 1 x
      · rw [List.mem_singleton] at hq; subst hq; exact vRow_piece A c 0 x)
    i (by
      have h0 : (i 0).val < 2 := (i 0).isLt
      have h1 : (i 1).val < 128 := (i 1).isLt
      have h2 : (i 2).val < 512 := (i 2).isLt
      have key : ∀ b : Fin 2, (i 0).val = b.val → i ∈ (rectO b).set := fun b hb => by
        rw [Rect.mem_set_unit]
        intro a
        match a with
        | ⟨0, _⟩ => exact ⟨hb.ge, by show (i 0).val < b.val + 1; omega⟩
        | ⟨1, _⟩ => exact ⟨Nat.zero_le _, by show (i 1).val < 0 + 128; omega⟩
        | ⟨2, _⟩ => exact ⟨Nat.zero_le _, by show (i 2).val < 0 + 512; omega⟩
      by_cases h : (i 0).val = 0
      · exact ⟨_, List.mem_cons_of_mem _ (List.mem_singleton_self _), key 0 h⟩
      · exact ⟨_, List.mem_cons_self, key 1 (by show (i 0).val = 1; omega)⟩)

end Cert.Tree
-- ==== Proof.Exchange.lean ====
/-
# One step of the exchange

The records every device shares about the cells, and the program steps over them: handing a slot to the partner,
waiting on a transfer semaphore until the slot it speaks of is here, both at any round and any contents.
-/
module

public import proofs.«01_k».proof.Proof.Contents

@[expose] public section

set_option maxRecDepth 16384

noncomputable section

namespace Cert.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Fin 3 → Dev nD → (cc0_scratch0 : Ref sig .tc).ty.Contents (Elt F))
  (Y : Fin 3 → Dev nD → (cc0_scratch2 : Ref sig .tc).ty.Contents (Elt F))

/-! ## Records -/

/-- A device's cells: its barrier, and its transfer semaphores by kind and round. -/
abbrev Cell : Type := Option (Fin 4 × Fin 3)

/-- The cell of a device. -/
def kcell (p : Dev nD × Cell) : GSem nD τ sig := match p.2 with
  | none => barCell p.1
  | some q => xCell q.1 q.2 p.1

variable (K : Dev nD × Cell → ℕ)

/-- Every cell follows the schedule and has reached round 0. -/
def recs : sProp 𝕄 :=
  iprop(bigSep Finset.univ (fun p : Dev nD × Cell => cellInv EX (xRd X Y) (K p) (kcell p))
    ∗ bigSep Finset.univ (fun p : Dev nD × Cell => reached EX (kcell p) 0))

instance recs_persistent : BI.Persistent (recs (F := F) X Y K) := by
  unfold recs; infer_instance

/-- The records tell of any cell that it follows the schedule. -/
theorem recs_inv (p : Dev nD × Cell) : recs (F := F) X Y K ⊢ cellInv EX (xRd X Y) (K p) (kcell p) :=
  sep_elim_left.trans (bigSep_elim (Finset.mem_univ p))
/-- The records tell of any cell that it has reached round 0. -/
theorem recs_reached (p : Dev nD × Cell) : recs (F := F) X Y K ⊢ reached EX (kcell p) 0 :=
  sep_elim_right.trans (bigSep_elim (Finset.mem_univ p))

/-- A barrier cell follows the schedule. -/
theorem inv_bar (c : Dev nD) : recs (F := F) X Y K ⊢ cellInv EX (xRd X Y) (K (c, none)) (barCell c) := recs_inv X Y K (c, none)
/-- A transfer cell follows the schedule. -/
theorem inv_x (k : Fin 4) (r : Fin 3) (c : Dev nD) : recs (F := F) X Y K ⊢ cellInv EX (xRd X Y) (K (c, some (k, r))) (xCell k r c) :=
  recs_inv X Y K (c, some (k, r))
/-- A barrier cell has reached round 0. -/
theorem reached_bar (c : Dev nD) : recs (F := F) X Y K ⊢ reached EX (barCell c) 0 := recs_reached X Y K (c, none)
/-- A transfer cell has reached round 0. -/
theorem reached_x (k : Fin 4) (r : Fin 3) (c : Dev nD) : recs (F := F) X Y K ⊢ reached EX (xCell k r c) 0 :=
  recs_reached X Y K (c, some (k, r))

/-! ## Sending a slot -/

/-- What a context slot's landing leaves at the partner is what was sent. -/
theorem landC (r : Fin 3) (c : Dev nD) (fn : Buf (Elt F) ((slotC crM r).view.loc (peer r c : Thread nD τ))) :
    ((slotC crM r).view.loc (peer r c : Thread nD τ) ↦[(slotC crM r).view.set]{fullShare}
        ((slotC crM r).view.write (Elt F) fn ((slotC cM r).view.read (Elt F) (X r c)) Finset.univ))
      ⊢ (xPay (F := F) X Y 1 r (peer r c) : sProp 𝕄) := by
  show _ ⊢ (ptsC crM r (peer r c) (X r (peer r (peer r c))) : sProp 𝕄)
  rw [peer_peer]
  refine Entails.of_eq (pointsTo_congr fun i hi => ?_)
  obtain ⟨j, -, rfl⟩ := Finset.mem_map.1 hi
  exact View.write_emb_of_mem _ _ (Finset.mem_univ j)

/-- What a statistics slot's landing leaves at the partner is what was sent. -/
theorem landS (r : Fin 3) (c : Dev nD) (fn : Buf (Elt F) ((slotS srM r).view.loc (peer r c : Thread nD τ))) :
    ((slotS srM r).view.loc (peer r c : Thread nD τ) ↦[(slotS srM r).view.set]{fullShare}
        ((slotS srM r).view.write (Elt F) fn ((slotS sM r).view.read (Elt F) (Y r c)) Finset.univ))
      ⊢ (xPay (F := F) X Y 3 r (peer r c) : sProp 𝕄) := by
  show _ ⊢ (ptsS srM r (peer r c) (Y r (peer r (peer r c))) : sProp 𝕄)
  rw [peer_peer]
  refine Entails.of_eq (pointsTo_congr fun i hi => ?_)
  obtain ⟨j, -, rfl⟩ := Finset.mem_map.1 hi
  exact View.write_emb_of_mem _ _ (Finset.mem_univ j)

/-- Sending the context slot of round `r` to the partner `n`. -/
theorem wp_send_ctx (r : Fin 3) (c n : Dev nD) (hn : n = peer r c)
    {hsc : (slotC crM r).view.ref.isScScratch = false} {hsrc : (slotC cM r).view.WordExact} {hdst : (slotC crM r).view.WordExact}
    {hsem : DmaTarget.Typed .vmem (.dma (semX 1 r)) (.remote (Dev.tc n : Thread nD τ) (slotC crM r) (.dma (semX 0 r)) hsc)}
    {α : Type} {Q : α → sProp 𝕄} {k : PUnit → Prog (TpuEff nD τ sig (Elt F) Λ₀ .tc) α}
    (fn : Buf (Elt F) ((slotC crM r).view.loc (peer r c : Thread nD τ))) (W : Waits sig Unit) (l : List (GSem nD τ sig × ℕ)) :
    iprop(recs X Y K ∗ ptsC cM r c (X r c) ∗ ptsC crM r (peer r c) fn
        ∗ owes (c : Thread nD τ) (owe ((xCell 1 r (peer r c), NC) :: l)) W
        ∗ dutyTok EX (xCell 0 r c) 0 (0 : Fin 3) ∗ dutyTok EX (xCell 1 r (peer r c)) 0 (0 : Fin 3))
      ⊢ iprop(((cred (tallyAt (xCell 0 r c) () (cost 0)) ∗ owes (c : Thread nD τ) (owe l) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotC cM r) (.remote (Dev.tc n : Thread nD τ) (slotC crM r) (.dma (semX 0 r)) hsc) (.dma (semX 1 r)) hsrc hdst hsem) k) Q) := by
  subst hn
  iintro ⟨#HR, Hc, Hd, HO, Ht1, Ht2⟩ Hk
  unfold ptsC
  iapply (Rounds.wp_send_pointsTo 𝒱₀ EX (xRd X Y) (c : Thread nD τ) none (κ₁ := K (c, some (0, r))) (κ₂ := K (peer r c, some (1, r)))
    (r₁ := 0) (r₂ := 0) (d₁ := (0 : Fin 3)) (d₂ := (0 : Fin 3)) (fd := fn) (fs := X r c)
    (by rw [duties_x]; exact Finset.mem_singleton_self _) (by rw [duties_x]; exact Finset.mem_singleton_self _)
    () () NC (show View.amount _ (.dma (semX 1 r)) = _ from creditCr r) (amount_x X Y c 0 r 0) (amount_x X Y (peer r c) 1 r 0) (owe l) rfl (W := W)
    (by rw [payload_x]; exact BI.Entails.refl _) (by rw [payload_x]; exact landC X Y r c fn)) $$ [Hc Hd HO Ht1 Ht2]
  · isplitr; · iapply (inv_x X Y K 0 r c); iexact HR
    isplitr; · iapply (inv_x X Y K 1 r (peer r c)); iexact HR
    isplitl [Hc]; · iexact Hc
    isplitl [Hd]; · iexact Hd
    isplitl [HO]; · iexact HO
    isplitl [Ht1]; · iexact Ht1
    isplitr; · iapply (reached_x X Y K 0 r c); iexact HR
    isplitl [Ht2]; · iexact Ht2
    iapply (reached_x X Y K 1 r (peer r c)); iexact HR
  iexact Hk

/-- Sending the statistics slot of round `r` to the partner `n`. -/
theorem wp_send_st (r : Fin 3) (c n : Dev nD) (hn : n = peer r c)
    {hsc : (slotS srM r).view.ref.isScScratch = false} {hsrc : (slotS sM r).view.WordExact} {hdst : (slotS srM r).view.WordExact}
    {hsem : DmaTarget.Typed .vmem (.dma (semX 3 r)) (.remote (Dev.tc n : Thread nD τ) (slotS srM r) (.dma (semX 2 r)) hsc)}
    {α : Type} {Q : α → sProp 𝕄} {k : PUnit → Prog (TpuEff nD τ sig (Elt F) Λ₀ .tc) α}
    (fn : Buf (Elt F) ((slotS srM r).view.loc (peer r c : Thread nD τ))) (W : Waits sig Unit) (l : List (GSem nD τ sig × ℕ)) :
    iprop(recs X Y K ∗ ptsS sM r c (Y r c) ∗ ptsS srM r (peer r c) fn
        ∗ owes (c : Thread nD τ) (owe ((xCell 3 r (peer r c), NS) :: l)) W
        ∗ dutyTok EX (xCell 2 r c) 0 (0 : Fin 3) ∗ dutyTok EX (xCell 3 r (peer r c)) 0 (0 : Fin 3))
      ⊢ iprop(((cred (tallyAt (xCell 2 r c) () (cost 2)) ∗ owes (c : Thread nD τ) (owe l) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotS sM r) (.remote (Dev.tc n : Thread nD τ) (slotS srM r) (.dma (semX 2 r)) hsc) (.dma (semX 3 r)) hsrc hdst hsem) k) Q) := by
  subst hn
  iintro ⟨#HR, Hc, Hd, HO, Ht1, Ht2⟩ Hk
  unfold ptsS
  iapply (Rounds.wp_send_pointsTo 𝒱₀ EX (xRd X Y) (c : Thread nD τ) none (κ₁ := K (c, some (2, r))) (κ₂ := K (peer r c, some (3, r)))
    (r₁ := 0) (r₂ := 0) (d₁ := (0 : Fin 3)) (d₂ := (0 : Fin 3)) (fd := fn) (fs := Y r c)
    (by rw [duties_x]; exact Finset.mem_singleton_self _) (by rw [duties_x]; exact Finset.mem_singleton_self _)
    () () NS (show View.amount _ (.dma (semX 3 r)) = _ from creditSr r) (amount_x X Y c 2 r 0) (amount_x X Y (peer r c) 3 r 0) (owe l) rfl (W := W)
    (by rw [payload_x]; exact BI.Entails.refl _) (by rw [payload_x]; exact landS X Y r c fn)) $$ [Hc Hd HO Ht1 Ht2]
  · isplitr; · iapply (inv_x X Y K 2 r c); iexact HR
    isplitr; · iapply (inv_x X Y K 3 r (peer r c)); iexact HR
    isplitl [Hc]; · iexact Hc
    isplitl [Hd]; · iexact Hd
    isplitl [HO]; · iexact HO
    isplitl [Ht1]; · iexact Ht1
    isplitr; · iapply (reached_x X Y K 2 r c); iexact HR
    isplitl [Ht2]; · iexact Ht2
    iapply (reached_x X Y K 3 r (peer r c)); iexact HR
  iexact Hk

/-! ## Waiting -/

/-- Waiting for a transfer cell's whole credit: its payload is here, and the cell, done, is back at zero. -/
theorem wp_wait_x (k : Fin 4) (r : Fin 3) (c : Dev nD) {w : TpuEff nD τ sig (Elt F) Λ₀ .tc PUnit} {k' : ℕ}
    (hw : ∀ P : PUnit → sProp 𝕄, wpE' (defs₀ (F := F)) 𝒱₀ (c : Thread nD τ) none .empty Set.univ w P
      = waitSpec (c : Thread nD τ) Set.univ (.dma (semX k r)) k' P) (hk' : k' = cost k)
    {α : Type} {Q : α → sProp 𝕄} {kk : PUnit → Prog (TpuEff nD τ sig (Elt F) Λ₀ .tc) α}
    (W : Waits sig Unit) (l : List (GSem nD τ sig × ℕ))
    (hm : (levAts L lv : sProp 𝕄) ⊢ MayWait (c : Thread nD τ) (.dma (semX k r)) () (owe l)) :
    iprop(recs X Y K ∗ levAts L lv ∗ cred (tallyAt (xCell k r c) () (cost k)) ∗ owes (c : Thread nD τ) (owe l) W
        ∗ atPos EX (xCell k r c) 0 ∅ 0)
      ⊢ iprop(((owes (c : Thread nD τ) (owe l) (insert (.dma (semX k r), ()) W) ∗ semVal (xCell k r c) 0 ∗ xPay X Y k r c)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hk'
  iintro ⟨#HR, #Hlev, Hc, HO, Hat⟩ Hk
  iapply (Rounds.wp_wait_rest_token 𝒱₀ EX (xRd X Y) (c : Thread nD τ) none (κ := K (c, some (k, r)))
      hw (Set.mem_univ _) () (O := owe l) (W := W) (R := 0) (m := 0) (T := ∅)
      (by rw [Nat.zero_add, expect_x])) $$ [Hc HO Hat]
  · isplitr; · iapply (inv_x X Y K k r c); iexact HR
    isplitl [Hc]; · iexact Hc
    isplitl [HO]; · iexact HO
    isplitr; · iapply hm; iexact Hlev
    iexact Hat
  iintro ⟨HO, Hat, -, Hpay⟩
  ihave Hp := (Entails.of_eq (rest_x X Y c k r)) $$ Hpay
  imod (Rounds.cell_close EX (xRd X Y) (Set.mem_univ (K (c, some (k, r)))) (fun h => h) (R := 0 + 1) (duties_later X Y (xCell k r c))) $$ [Hat] with Hz
  · isplitr; · iapply (inv_x X Y K k r c); iexact HR
    iexact Hat
  iapply Hk
  isplitl [HO]; · iexact HO
  isplitl [Hz]; · iexact Hz
  iexact Hp

end Cert.Tree

end
-- ==== Proof.Body.lean ====
/-
# The body of a device

One device's run of the kernel body: the barrier, its own part, three exchanges and the output.
-/
module

public import proofs.«01_k».proof.Proof.Exchange

@[expose] public section

set_option maxRecDepth 16384

noncomputable section

namespace Cert.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots of a buffer -/

/-- A whole context buffer gives up slot `r`, at any contents it agrees with there, and takes it back. -/
theorem takeC (M : Memref sig .tc .vmem S3x2x4x128x64 .bf16) (r : Fin 3) (c : Dev nD)
    (g f : Buf (Elt F) (M.view.loc (c : Thread nD τ))) (h : ∀ i ∈ (slotC M r).view.set, g i = f i) :
    (M.view.loc (c : Thread nD τ) ↦{fullShare} g)
      ⊢ (iprop(ptsC M r c f ∗ (ptsC M r c f -∗ ∃ g' : Buf (Elt F) (M.view.loc (c : Thread nD τ)),
          ⌜∀ i ∈ (slotC M r).view.set, g' i = f i⌝ ∗ (M.view.loc (c : Thread nD τ) ↦{fullShare} g'))) : sProp 𝕄) := by
  have e : ((slotC M r).view.loc (c : Thread nD τ) ↦[(slotC M r).view.set]{fullShare} g : sProp 𝕄) = ptsC M r c f := pointsTo_congr h
  rw [← e]
  iintro H
  ihave H' := (pointsTo_split_subset (S := Finset.univ) (Finset.subset_univ (slotC M r).view.set)).1 $$ H
  icases H' with ⟨H1, H2⟩
  isplitl [H1]; · iexact H1
  iintro H1
  iexists g
  isplitr; · ipureintro; exact h
  iapply (pointsTo_split_subset (S := Finset.univ) (Finset.subset_univ (slotC M r).view.set)).2
  isplitl [H1]; · iexact H1
  iexact H2

/-- The same of a statistics buffer. -/
theorem takeS (M : Memref sig .tc .vmem S3x2x2x4x128 .f32) (r : Fin 3) (c : Dev nD)
    (g f : Buf (Elt F) (M.view.loc (c : Thread nD τ))) (h : ∀ i ∈ (slotS M r).view.set, g i = f i) :
    (M.view.loc (c : Thread nD τ) ↦{fullShare} g)
      ⊢ (iprop(ptsS M r c f ∗ (ptsS M r c f -∗ ∃ g' : Buf (Elt F) (M.view.loc (c : Thread nD τ)),
          ⌜∀ i ∈ (slotS M r).view.set, g' i = f i⌝ ∗ (M.view.loc (c : Thread nD τ) ↦{fullShare} g'))) : sProp 𝕄) := by
  have e : ((slotS M r).view.loc (c : Thread nD τ) ↦[(slotS M r).view.set]{fullShare} g : sProp 𝕄) = ptsS M r c f := pointsTo_congr h
  rw [← e]
  iintro H
  ihave H' := (pointsTo_split_subset (S := Finset.univ) (Finset.subset_univ (slotS M r).view.set)).1 $$ H
  icases H' with ⟨H1, H2⟩
  isplitl [H1]; · iexact H1
  iintro H1
  iexists g
  isplitr; · ipureintro; exact h
  iapply (pointsTo_split_subset (S := Finset.univ) (Finset.subset_univ (slotS M r).view.set)).2
  isplitl [H1]; · iexact H1
  iexact H2

/-! ## What each merge stores -/

section Values
variable (p q : Part F) (gc : cc0_scratch0.ty.Contents (Elt F)) (gs : cc0_scratch2.ty.Contents (Elt F))

/-- Round 0: from slots that hold two partial results, the context stored next is the merged one. -/
theorem val0C (hc : ∀ i ∈ (rectC 0).set, gc i = contOf p i) (hs : ∀ i ∈ (rectS 0).set, gs i = statOf p i) :
    k0_pay85 (k0_pay84 (k0_pay78 (View.readAt (Elt F) sM.view (rectM 0 0).toLoadRect gs))
      (View.readAt (Elt F) srM.view (rectM 0 0).toLoadRect (statOf q)) (View.readAt (Elt F) cM.view (rectC 0).toLoadRect gc)
      (View.readAt (Elt F) crM.view (rectC 0).toLoadRect (contOf q))) = vCx (merge p q) := by
  rw [rdMx 0 gs p hs, rdMxr 0 _ q fun _ _ => rfl, rdCx 0 gc p hc, rdCxr 0 _ q fun _ _ => rfl, pay78_eq, pay84_eq, pay85_eq]
/-- Round 0: the maxima stored next are the merged ones. -/
theorem val0M (hs : ∀ i ∈ (rectS 0).set, gs i = statOf p i) :
    k0_pay86 (k0_pay80 (k0_pay78 (View.readAt (Elt F) sM.view (rectM 0 0).toLoadRect gs))
      (View.readAt (Elt F) srM.view (rectM 0 0).toLoadRect (statOf q))) = vMx (merge p q) := by
  rw [rdMx 0 gs p hs, rdMxr 0 _ q fun _ _ => rfl, pay78_eq, pay80_eq, pay86_eq]
/-- Round 0: the sums stored next are the merged ones. -/
theorem val0S (hs : ∀ i ∈ (rectS 0).set, gs i = statOf p i) :
    k0_pay87 (k0_pay83 (k0_pay78 (View.readAt (Elt F) sM.view (rectM 0 0).toLoadRect gs))
      (View.readAt (Elt F) sM.view (rectM 0 1).toLoadRect gs) (View.readAt (Elt F) srM.view (rectM 0 0).toLoadRect (statOf q))
      (View.readAt (Elt F) srM.view (rectM 0 1).toLoadRect (statOf q))) = vSm (merge p q) := by
  rw [rdMx 0 gs p hs, rdSm 0 gs p hs, rdMxr 0 _ q fun _ _ => rfl, rdSmr 0 _ q fun _ _ => rfl, pay78_eq, pay83_eq, pay87_eq]
/-- Round 1: the context stored next is the merged one. -/
theorem val1C (hc : ∀ i ∈ (rectC 1).set, gc i = contOf p i) (hs : ∀ i ∈ (rectS 1).set, gs i = statOf p i) :
    k0_pay95 (k0_pay88 (View.readAt (Elt F) sM.view (rectM 1 0).toLoadRect gs))
      (k0_pay90 (View.readAt (Elt F) srM.view (rectM 1 0).toLoadRect (statOf q))) (View.readAt (Elt F) cM.view (rectC 1).toLoadRect gc)
      (View.readAt (Elt F) crM.view (rectC 1).toLoadRect (contOf q)) = vCx (merge p q) := by
  rw [rdMx 1 gs p hs, rdMxr 1 _ q fun _ _ => rfl, rdCx 1 gc p hc, rdCxr 1 _ q fun _ _ => rfl, pay88_eq, pay90_eq, pay95_eq]
/-- Round 1: the maxima stored next are the merged ones. -/
theorem val1M (hs : ∀ i ∈ (rectS 1).set, gs i = statOf p i) :
    k0_pay96 (k0_pay88 (View.readAt (Elt F) sM.view (rectM 1 0).toLoadRect gs))
      (k0_pay90 (View.readAt (Elt F) srM.view (rectM 1 0).toLoadRect (statOf q))) = vMx (merge p q) := by
  rw [rdMx 1 gs p hs, rdMxr 1 _ q fun _ _ => rfl, pay88_eq, pay90_eq, pay96_eq]
/-- Round 1: the sums stored next are the merged ones. -/
theorem val1S (hs : ∀ i ∈ (rectS 1).set, gs i = statOf p i) :
    k0_pay97 (k0_pay94 (k0_pay88 (View.readAt (Elt F) sM.view (rectM 1 0).toLoadRect gs))
      (k0_pay89 (View.readAt (Elt F) sM.view (rectM 1 1).toLoadRect gs))
      (k0_pay90 (View.readAt (Elt F) srM.view (rectM 1 0).toLoadRect (statOf q)))
      (View.readAt (Elt F) srM.view (rectM 1 1).toLoadRect (statOf q))) = vSm (merge p q) := by
  rw [rdMx 1 gs p hs, rdSm 1 gs p hs, rdMxr 1 _ q fun _ _ => rfl, rdSmr 1 _ q fun _ _ => rfl, pay88_eq, pay89_eq, pay90_eq,
    pay94_eq, pay97_eq]
/-- Round 2: the first output row is the projection of the normalised context of both partial results together. -/
theorem val2R (hc : ∀ i ∈ (rectC 2).set, gc i = contOf p i) (hs : ∀ i ∈ (rectS 2).set, gs i = statOf p i)
    (wo : Vec F S256x512 .bf16) :
    k0_pay106 (k0_pay101 (View.readAt (Elt F) sM.view (rectM 2 0).toLoadRect gs) (View.readAt (Elt F) srM.view (rectM 2 0).toLoadRect (statOf q)))
      (k0_pay102 (View.readAt (Elt F) sM.view (rectM 2 0).toLoadRect gs) (View.readAt (Elt F) srM.view (rectM 2 0).toLoadRect (statOf q)))
      (k0_pay103 (View.readAt (Elt F) sM.view (rectM 2 0).toLoadRect gs) (View.readAt (Elt F) sM.view (rectM 2 1).toLoadRect gs)
        (View.readAt (Elt F) srM.view (rectM 2 0).toLoadRect (statOf q)) (View.readAt (Elt F) srM.view (rectM 2 1).toLoadRect (statOf q)))
      (View.readAt (Elt F) cM.view (rectC 2).toLoadRect gc) (View.readAt (Elt F) crM.view (rectC 2).toLoadRect (contOf q)) wo
      = vRow (project (normal p q) wo 0) := by
  rw [rdMx 2 gs p hs, rdSm 2 gs p hs, rdMxr 2 _ q fun _ _ => rfl, rdSmr 2 _ q fun _ _ => rfl, rdCx 2 gc p hc,
    rdCxr 2 _ q fun _ _ => rfl, pay101_eq, pay102_eq, pay103_eq, pay106_eq]
/-- Round 2: the same for the second output row. -/
theorem val2S (hc : ∀ i ∈ (rectC 2).set, gc i = contOf p i) (hs : ∀ i ∈ (rectS 2).set, gs i = statOf p i)
    (wo : Vec F S256x512 .bf16) :
    k0_pay1 (k0_pay107 (k0_pay101 (View.readAt (Elt F) sM.view (rectM 2 0).toLoadRect gs) (View.readAt (Elt F) srM.view (rectM 2 0).toLoadRect (statOf q)))
      (k0_pay102 (View.readAt (Elt F) sM.view (rectM 2 0).toLoadRect gs) (View.readAt (Elt F) srM.view (rectM 2 0).toLoadRect (statOf q)))
      (k0_pay103 (View.readAt (Elt F) sM.view (rectM 2 0).toLoadRect gs) (View.readAt (Elt F) sM.view (rectM 2 1).toLoadRect gs)
        (View.readAt (Elt F) srM.view (rectM 2 0).toLoadRect (statOf q)) (View.readAt (Elt F) srM.view (rectM 2 1).toLoadRect (statOf q)))
      (View.readAt (Elt F) cM.view (rectC 2).toLoadRect gc) (View.readAt (Elt F) crM.view (rectC 2).toLoadRect (contOf q)) wo)
      = vRow (project (normal p q) wo 1) := by
  rw [rdMx 2 gs p hs, rdSm 2 gs p hs, rdMxr 2 _ q fun _ _ => rfl, rdSmr 2 _ q fun _ _ => rfl, rdCx 2 gc p hc,
    rdCxr 2 _ q fun _ _ => rfl, pay101_eq, pay102_eq, pay103_eq, pay107_eq, pay1_eq]

/-- What a merge of round 0 stores into slot 1, and one of round 1 into slot 2. -/
theorem st0C {v : Vec F S1x2x4x128x64 .bf16} (hv : v = vCx (merge p q)) (r : Fin 3) :
    ∀ i ∈ (slotC cM r).view.set, cM.view.writes (Elt F) gc [⟨rectC r, v⟩] i = contOf (merge p q) i := fun i hi => by
  subst hv; exact stCx r gc (merge p q) i (set_slotC r ▸ hi)
/-- What a merge stores into the statistics slot of the next round. -/
theorem st0S {m s : Vec F S1x1x2x4x128 .f32} (hm : m = vMx (merge p q)) (hs : s = vSm (merge p q)) (r : Fin 3) :
    ∀ i ∈ (slotS sM r).view.set, sM.view.writes (Elt F) gs [⟨rectM r 1, s⟩, ⟨rectM r 0, m⟩] i = statOf (merge p q) i := fun i hi => by
  subst hm; subst hs; exact stSt r gs (merge p q) i (set_slotS r ▸ hi)
end Values

/-- The two stored rows are the result. -/
theorem stOut' (A : Args F) (c : Dev nD) (f : cc0_stg5_0.ty.Contents (Elt F)) {u v : Vec F S1x128x512 .f32}
    (hu : u = vRow (project (final A c) (rdWo (A.wo c)) 0)) (hv : v = vRow (project (final A c) (rdWo (A.wo c)) 1)) :
    (Memref.whole cc0_stg5_0).view.writes (Elt F) f [⟨rectO 1, v⟩, ⟨rectO 0, u⟩] = result A c := by
  subst hu; subst hv; exact stOut A c f

/-! ## What a device starts from -/

/-- A device's positions, and the tokens of the transfers it makes, in round `r`. -/
def stepG (r : Fin 3) (c : Dev nD) : sProp 𝕄 :=
  iprop(atPos EX (xCell 0 r c) 0 ∅ 0 ∗ atPos EX (xCell 1 r c) 0 ∅ 0 ∗ atPos EX (xCell 2 r c) 0 ∅ 0 ∗ atPos EX (xCell 3 r c) 0 ∅ 0
    ∗ dutyTok EX (xCell 0 r c) 0 (0 : Fin 3) ∗ dutyTok EX (xCell 1 r (peer r c)) 0 (0 : Fin 3)
    ∗ dutyTok EX (xCell 2 r c) 0 (0 : Fin 3) ∗ dutyTok EX (xCell 3 r (peer r c)) 0 (0 : Fin 3))
/-- The credits of what lands at a device in round `r`. -/
def stepC (r : Fin 3) (c : Dev nD) : sProp 𝕄 :=
  iprop(cred (tallyAt (xCell 1 r c) () (cost 1)) ∗ cred (tallyAt (xCell 3 r c) () (cost 3)))
/-- The same for the barrier. -/
def barG (c : Dev nD) : sProp 𝕄 :=
  iprop(atPos EX (barCell c) 0 ∅ 0 ∗ dutyTok EX (barCell (peer 0 c)) 0 (0 : Fin 3) ∗ dutyTok EX (barCell (peer 1 c)) 0 (1 : Fin 3)
    ∗ dutyTok EX (barCell (peer 2 c)) 0 (2 : Fin 3))

/-- A device's four semaphores of round `r` at zero. -/
def stepZ (r : Fin 3) (c : Dev nD) : sProp 𝕄 :=
  iprop(semVal (xCell 0 r c) 0 ∗ semVal (xCell 1 r c) 0 ∗ semVal (xCell 2 r c) 0 ∗ semVal (xCell 3 r c) 0)

variable (A : Args F) (K : Dev nD × Cell → ℕ)

/-- The slot of round `r` of the two landing buffers, at some contents. -/
def landing (r : Fin 3) (c : Dev nD) : sProp 𝕄 :=
  iprop((∃ f, ptsC (F := F) crM r c f) ∗ ∃ f, ptsS (F := F) srM r c f)

/-- The staged arguments of a device, in order, at what they hold. -/
def staged (c : Dev nD) : sProp 𝕄 :=
  iprop(((Memref.whole cc0_stg0_0).view.loc (c : Thread nD τ) ↦{fullShare} A.x c)
    ∗ ((Memref.whole cc0_stg1_0).view.loc (c : Thread nD τ) ↦{fullShare} A.wq c)
    ∗ ((Memref.whole cc0_stg2_0).view.loc (c : Thread nD τ) ↦{fullShare} A.k c)
    ∗ ((Memref.whole cc0_stg3_0).view.loc (c : Thread nD τ) ↦{fullShare} A.v c)
    ∗ ((Memref.whole cc0_stg4_0).view.loc (c : Thread nD τ) ↦{fullShare} A.wo c))

/-- What the body of device `c` runs from. -/
def bodyPre (c : Dev nD) (W : Waits sig Unit) (o : Buf (Elt F) ((Memref.whole cc0_stg5_0).view.loc (c : Thread nD τ)))
    (f6 : Buf (Elt F) (cM.view.loc (c : Thread nD τ))) (f8 : Buf (Elt F) (sM.view.loc (c : Thread nD τ))) : sProp 𝕄 :=
  iprop(recs (cont A) (stat A) K ∗ levAts L lv ∗ (barG c ∗ stepG 0 c ∗ stepG 1 c ∗ stepG 2 c)
    ∗ (cred (tallyAt (barCell c) () 3) ∗ stepC 0 c ∗ stepC 1 c ∗ stepC 2 c)
    ∗ owes (c : Thread nD τ) (O₀ c) W ∗ staged A c
    ∗ ((Memref.whole cc0_stg5_0).view.loc (c : Thread nD τ) ↦{fullShare} o)
    ∗ (cM.view.loc (c : Thread nD τ) ↦{fullShare} f6) ∗ (sM.view.loc (c : Thread nD τ) ↦{fullShare} f8)
    ∗ (landing 0 c ∗ landing 1 c ∗ landing 2 c))

/-- What it leaves: nothing owed, the arguments as they were, the output at the result, the scratch buffers at something
    and every semaphore at zero. -/
def bodyPost (c : Dev nD) : sProp 𝕄 :=
  iprop((∃ W', owes (c : Thread nD τ) (owe (dues3 c)) W') ∗ staged A c
    ∗ ((Memref.whole cc0_stg5_0).view.loc (c : Thread nD τ) ↦{fullShare} result A c)
    ∗ ((∃ f, cM.view.loc (c : Thread nD τ) ↦{fullShare} f) ∗ (∃ f, sM.view.loc (c : Thread nD τ) ↦{fullShare} f)
      ∗ landing 0 c ∗ landing 1 c ∗ landing 2 c)
    ∗ (semVal (barCell c) 0 ∗ stepZ 0 c ∗ stepZ 1 c ∗ stepZ 2 c))

set_option maxHeartbeats 1600000 in
/-- The body takes a device from `bodyPre` to `bodyPost`. -/
theorem sound_body (c : Dev nD) (Kt : PUnit → sProp 𝕄) (W : Waits sig Unit)
    (o : Buf (Elt F) ((Memref.whole cc0_stg5_0).view.loc (c : Thread nD τ)))
    (f6 : Buf (Elt F) (cM.view.loc (c : Thread nD τ))) (f8 : Buf (Elt F) (sM.view.loc (c : Thread nD τ))) :
    iprop(bodyPre A K c W o f6 f8 ∗ (bodyPost A c -∗ Kt ⟨⟩))
      ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            cM (Memref.isWhole_whole _) crM (Memref.isWhole_whole _) sM (Memref.isWhole_whole _) srM (Memref.isWhole_whole _)
            cc0_scratch4 cc0_scratch5 cc0_scratch6 cc0_scratch7) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId, dev1_eq c, dev2_eq c, dev3_eq c]
  unfold bodyPre barG landing staged
  iintro ⟨⟨#HR, #Hlev, ⟨⟨HatB, Htb0, Htb1, Htb2⟩, HG0, HG1, HG2⟩, ⟨HcB, HC0, HC1, HC2⟩, HO, ⟨Hx, Hq, Hk, Hv, Hwo⟩, Hout, Hc, Hs, ⟨HL0, HL1, HL2⟩⟩, HK⟩
  unfold O₀ dues
  iapply (Rounds.wp_signal 𝒱₀ EX (xRd (cont A) (stat A)) (c : Thread nD τ) none (dst := (peer 0 c : Thread nD τ)) (κ := K (peer 0 c, none))
      (d := (0 : Fin 3)) (by rw [duties_bar]; exact Finset.mem_univ _) ((amount_bar (cont A) (stat A) (peer 0 c) 0).trans (by decide)) () _ rfl)
    $$ [HO Htb0 HL0]
  · isplitr; · iapply (inv_bar (cont A) (stat A) K (peer 0 c)); iexact HR
    isplitl [HO]; · iexact HO
    isplitl [Htb0]; · iexact Htb0
    isplitl [HL0]; · rw [payload_bar]; unfold barPay; rw [peer_peer]; iexact HL0
    iapply (reached_bar (cont A) (stat A) K (peer 0 c)); iexact HR
  iintro HO
  iapply (Rounds.wp_signal 𝒱₀ EX (xRd (cont A) (stat A)) (c : Thread nD τ) none (dst := (peer 1 c : Thread nD τ)) (κ := K (peer 1 c, none))
      (d := (1 : Fin 3)) (by rw [duties_bar]; exact Finset.mem_univ _) ((amount_bar (cont A) (stat A) (peer 1 c) 1).trans (by decide)) () _ rfl)
    $$ [HO Htb1 HL1]
  · isplitr; · iapply (inv_bar (cont A) (stat A) K (peer 1 c)); iexact HR
    isplitl [HO]; · iexact HO
    isplitl [Htb1]; · iexact Htb1
    isplitl [HL1]; · rw [payload_bar]; unfold barPay; rw [peer_peer]; iexact HL1
    iapply (reached_bar (cont A) (stat A) K (peer 1 c)); iexact HR
  iintro HO
  iapply (Rounds.wp_signal 𝒱₀ EX (xRd (cont A) (stat A)) (c : Thread nD τ) none (dst := (peer 2 c : Thread nD τ)) (κ := K (peer 2 c, none))
      (d := (2 : Fin 3)) (by rw [duties_bar]; exact Finset.mem_univ _) ((amount_bar (cont A) (stat A) (peer 2 c) 2).trans (by decide)) () _ rfl)
    $$ [HO Htb2 HL2]
  · isplitr; · iapply (inv_bar (cont A) (stat A) K (peer 2 c)); iexact HR
    isplitl [HO]; · iexact HO
    isplitl [Htb2]; · iexact Htb2
    isplitl [HL2]; · rw [payload_bar]; unfold barPay; rw [peer_peer]; iexact HL2
    iapply (reached_bar (cont A) (stat A) K (peer 2 c)); iexact HR
  iintro HO
  iapply (Rounds.wp_wait_rest_token 𝒱₀ EX (xRd (cont A) (stat A)) (c : Thread nD τ) none (κ := K (c, none))
      (wpE_semWait_eq 𝒱₀ (c : Thread nD τ) none Set.univ) (Set.mem_univ _) () (O := owe (dues0 c)) (W := W) (R := 0) (m := 0) (T := ∅)
      (by rw [expect_bar]; decide)) $$ [HcB HO HatB]
  · isplitr; · iapply (inv_bar (cont A) (stat A) K c); iexact HR
    isplitl [HcB]; · iexact HcB
    isplitl [HO]; · iexact HO
    isplitr; · iapply (mayWait c (.reg barS) (dues0 c) 1 (le_of_eq (lv_bar c)) (dues0_above c)); iexact Hlev
    iexact HatB
  iintro ⟨HO, HatB, -, Hpay⟩
  ihave Hp := (Entails.of_eq (rest_bar (cont A) (stat A) c)) $$ Hpay
  unfold barPay
  icases Hp with ⟨⟨⟨%p0, HP0⟩, ⟨%s0, HS0⟩⟩, ⟨⟨%p1, HP1⟩, ⟨%s1, HS1⟩⟩, ⟨%p2, HP2⟩, ⟨%s2, HS2⟩⟩
  imod (Rounds.cell_close EX (xRd (cont A) (stat A)) (Set.mem_univ (K (c, none))) (fun h => h) (R := 0 + 1) (duties_later (cont A) (stat A) (barCell c))) $$ [HatB] with HzB
  · isplitr; · iapply (inv_bar (cont A) (stat A) K c); iexact HR
    iexact HatB
  sl_exec
  generalize hgc : cM.view.writes (Elt F) f6 _ = gc
  generalize hgs : sM.view.writes (Elt F) f8 _ = gs
  have hc : ∀ i ∈ (slotC cM 0).view.set, gc i = cont A 0 c i := fun i hi => by
    rw [← hgc]; exact stOwnC A c f6 i (set_slotC 0 ▸ hi)
  have hs : ∀ i ∈ (slotS sM 0).view.set, gs i = stat A 0 c i := fun i hi => by
    rw [← hgs]; exact stOwnS A c f8 i (set_slotS 0 ▸ hi)
  clear hgc hgs
  unfold stepG stepC
  ihave H' := (takeC cM 0 c gc (cont A 0 c) hc) $$ Hc
  icases H' with ⟨Hc0, Hc⟩
  ihave H' := (takeS sM 0 c gs (stat A 0 c) hs) $$ Hs
  icases H' with ⟨Hs0, Hs⟩
  unfold dues0
  icases HG0 with ⟨Ha0, Ha1, Ha2, Ha3, Ht0, Ht1, Ht2, Ht3⟩
  icases HC0 with ⟨Hr1, Hr3⟩
  iapply (wp_send_ctx (cont A) (stat A) K 0 c _ (dev4_eq c) p0 _ _) $$ [Hc0 HP0 HO Ht0 Ht1]
  · isplitr; · iexact HR
    isplitl [Hc0]; · iexact Hc0
    isplitl [HP0]; · iexact HP0
    isplitl [HO]; · iexact HO
    isplitl [Ht0]; · iexact Ht0
    iexact Ht1
  iintro ⟨Hr0, HO⟩
  sl_exec
  iapply (wp_send_st (cont A) (stat A) K 0 c _ (dev5_eq c) s0 _ _) $$ [Hs0 HS0 HO Ht2 Ht3]
  · isplitr; · iexact HR
    isplitl [Hs0]; · iexact Hs0
    isplitl [HS0]; · iexact HS0
    isplitl [HO]; · iexact HO
    isplitl [Ht2]; · iexact Ht2
    iexact Ht3
  iintro ⟨Hr2, HO⟩
  sl_exec
  iapply (wp_wait_x (cont A) (stat A) K 0 0 c (wpE_waitDma2_eq 𝒱₀ (c : Thread nD τ) none Set.univ) (creditC 0) _ (dues1 c)
    (mayWait c _ (dues1 c) 2 (by rw [show lv (_, _) () = _ from lv_x 0 0 c]; decide) (dues1_above c))) $$ [Hr0 HO Ha0]
  · isplitr; · iexact HR
    isplitr; · iexact Hlev
    isplitl [Hr0]; · iexact Hr0
    isplitl [HO]; · iexact HO
    iexact Ha0
  iintro ⟨HO, Hz00, Hp0⟩
  sl_exec
  iapply (wp_wait_x (cont A) (stat A) K 1 0 c (wpE_waitDma2_eq 𝒱₀ (c : Thread nD τ) none Set.univ) (creditCr 0) _ (dues1 c)
    (mayWait c _ (dues1 c) 2 (by rw [show lv (_, _) () = _ from lv_x 1 0 c]; decide) (dues1_above c))) $$ [Hr1 HO Ha1]
  · isplitr; · iexact HR
    isplitr; · iexact Hlev
    isplitl [Hr1]; · iexact Hr1
    isplitl [HO]; · iexact HO
    iexact Ha1
  iintro ⟨HO, Hz01, Hp1⟩
  sl_exec
  iapply (wp_wait_x (cont A) (stat A) K 2 0 c (wpE_waitDma2_eq 𝒱₀ (c : Thread nD τ) none Set.univ) (creditS 0) _ (dues1 c)
    (mayWait c _ (dues1 c) 2 (by rw [show lv (_, _) () = _ from lv_x 2 0 c]; decide) (dues1_above c))) $$ [Hr2 HO Ha2]
  · isplitr; · iexact HR
    isplitr; · iexact Hlev
    isplitl [Hr2]; · iexact Hr2
    isplitl [HO]; · iexact HO
    iexact Ha2
  iintro ⟨HO, Hz02, Hp2⟩
  sl_exec
  iapply (wp_wait_x (cont A) (stat A) K 3 0 c (wpE_waitDma2_eq 𝒱₀ (c : Thread nD τ) none Set.univ) (creditSr 0) _ (dues1 c)
    (mayWait c _ (dues1 c) 2 (by rw [show lv (_, _) () = _ from lv_x 3 0 c]; decide) (dues1_above c))) $$ [Hr3 HO Ha3]
  · isplitr; · iexact HR
    isplitr; · iexact Hlev
    isplitl [Hr3]; · iexact Hr3
    isplitl [HO]; · iexact HO
    iexact Ha3
  iintro ⟨HO, Hz03, Hp3⟩
  ihave Hp0' := (Entails.of_eq (show xPay (cont A) (stat A) 0 0 c = ptsC cM 0 c (cont A 0 c) from rfl)) $$ Hp0
  ihave Hp2' := (Entails.of_eq (show xPay (cont A) (stat A) 2 0 c = ptsS sM 0 c (stat A 0 c) from rfl)) $$ Hp2
  ihave H' := Hc $$ Hp0'
  clear hc gc
  icases H' with ⟨%gc, %hc, Hc⟩
  ihave H' := Hs $$ Hp2'
  clear hs gs
  icases H' with ⟨%gs, %hs, Hs⟩
  ihave Hcr0 := (Entails.of_eq (show xPay (cont A) (stat A) 1 0 c = ((slotC crM 0).view.loc (c : Thread nD τ) ↦[(slotC crM 0).view.set]{fullShare} cont A 0 (peer 0 c)) from rfl)) $$ Hp1
  ihave Hsr0 := (Entails.of_eq (show xPay (cont A) (stat A) 3 0 c = ((slotS srM 0).view.loc (c : Thread nD τ) ↦[(slotS srM 0).view.set]{fullShare} stat A 0 (peer 0 c)) from rfl)) $$ Hp3
  sl_exec
  generalize hgc : cM.view.writes (Elt F) gc _ = gc1
  generalize hgs : sM.view.writes (Elt F) gs _ = gs1
  have hc0 : ∀ i ∈ (rectC 0).set, gc i = contOf (part A 0 c) i := fun i hi => hc i (set_slotC 0 ▸ hi)
  have hs0 : ∀ i ∈ (rectS 0).set, gs i = statOf (part A 0 c) i := fun i hi => hs i (set_slotS 0 ▸ hi)
  have hc1 : ∀ i ∈ (slotC cM 1).view.set, gc1 i = cont A 1 c i := by
    rw [← hgc]
    exact st0C (part A 0 c) (part A 0 (peer 0 c)) gc (val0C (part A 0 c) (part A 0 (peer 0 c)) gc gs hc0 hs0) 1
  have hs1 : ∀ i ∈ (slotS sM 1).view.set, gs1 i = stat A 1 c i := by
    rw [← hgs]
    exact st0S (part A 0 c) (part A 0 (peer 0 c)) gs (val0M (part A 0 c) (part A 0 (peer 0 c)) gs hs0)
      (val0S (part A 0 c) (part A 0 (peer 0 c)) gs hs0) 1
  clear hgc hgs hc0 hs0 hc hs
  clear gc gs
  rename' gc1 => gc, gs1 => gs, hc1 => hc, hs1 => hs
  ihave H' := (takeC cM 1 c gc (cont A 1 c) hc) $$ Hc
  icases H' with ⟨Hc0, Hc⟩
  ihave H' := (takeS sM 1 c gs (stat A 1 c) hs) $$ Hs
  icases H' with ⟨Hs0, Hs⟩
  unfold dues1
  icases HG1 with ⟨Ha0, Ha1, Ha2, Ha3, Ht0, Ht1, Ht2, Ht3⟩
  icases HC1 with ⟨Hr1, Hr3⟩
  iapply (wp_send_ctx (cont A) (stat A) K 1 c _ (dev6_eq c) p1 _ _) $$ [Hc0 HP1 HO Ht0 Ht1]
  · isplitr; · iexact HR
    isplitl [Hc0]; · iexact Hc0
    isplitl [HP1]; · iexact HP1
    isplitl [HO]; · iexact HO
    isplitl [Ht0]; · iexact Ht0
    iexact Ht1
  iintro ⟨Hr0, HO⟩
  sl_exec
  iapply (wp_send_st (cont A) (stat A) K 1 c _ (dev7_eq c) s1 _ _) $$ [Hs0 HS1 HO Ht2 Ht3]
  · isplitr; · iexact HR
    isplitl [Hs0]; · iexact Hs0
    isplitl [HS1]; · iexact HS1
    isplitl [HO]; · iexact HO
    isplitl [Ht2]; · iexact Ht2
    iexact Ht3
  iintro ⟨Hr2, HO⟩
  sl_exec
  iapply (wp_wait_x (cont A) (stat A) K 0 1 c (wpE_waitDma2_eq 𝒱₀ (c : Thread nD τ) none Set.univ) (creditC 1) _ (dues2 c)
    (mayWait c _ (dues2 c) 3 (by rw [show lv (_, _) () = _ from lv_x 0 1 c]; decide) (dues2_above c))) $$ [Hr0 HO Ha0]
  · isplitr; · iexact HR
    isplitr; · iexact Hlev
    isplitl [Hr0]; · iexact Hr0
    isplitl [HO]; · iexact HO
    iexact Ha0
  iintro ⟨HO, Hz10, Hp0⟩
  sl_exec
  iapply (wp_wait_x (cont A) (stat A) K 1 1 c (wpE_waitDma2_eq 𝒱₀ (c : Thread nD τ) none Set.univ) (creditCr 1) _ (dues2 c)
    (mayWait c _ (dues2 c) 3 (by rw [show lv (_, _) () = _ from lv_x 1 1 c]; decide) (dues2_above c))) $$ [Hr1 HO Ha1]
  · isplitr; · iexact HR
    isplitr; · iexact Hlev
    isplitl [Hr1]; · iexact Hr1
    isplitl [HO]; · iexact HO
    iexact Ha1
  iintro ⟨HO, Hz11, Hp1⟩
  sl_exec
  iapply (wp_wait_x (cont A) (stat A) K 2 1 c (wpE_waitDma2_eq 𝒱₀ (c : Thread nD τ) none Set.univ) (creditS 1) _ (dues2 c)
    (mayWait c _ (dues2 c) 3 (by rw [show lv (_, _) () = _ from lv_x 2 1 c]; decide) (dues2_above c))) $$ [Hr2 HO Ha2]
  · isplitr; · iexact HR
    isplitr; · iexact Hlev
    isplitl [Hr2]; · iexact Hr2
    isplitl [HO]; · iexact HO
    iexact Ha2
  iintro ⟨HO, Hz12, Hp2⟩
  sl_exec
  iapply (wp_wait_x (cont A) (stat A) K 3 1 c (wpE_waitDma2_eq 𝒱₀ (c : Thread nD τ) none Set.univ) (creditSr 1) _ (dues2 c)
    (mayWait c _ (dues2 c) 3 (by rw [show lv (_, _) () = _ from lv_x 3 1 c]; decide) (dues2_above c))) $$ [Hr3 HO Ha3]
  · isplitr; · iexact HR
    isplitr; · iexact Hlev
    isplitl [Hr3]; · iexact Hr3
    isplitl [HO]; · iexact HO
    iexact Ha3
  iintro ⟨HO, Hz13, Hp3⟩
  ihave Hp0' := (Entails.of_eq (show xPay (cont A) (stat A) 0 1 c = ptsC cM 1 c (cont A 1 c) from rfl)) $$ Hp0
  ihave Hp2' := (Entails.of_eq (show xPay (cont A) (stat A) 2 1 c = ptsS sM 1 c (stat A 1 c) from rfl)) $$ Hp2
  ihave H' := Hc $$ Hp0'
  clear hc gc
  icases H' with ⟨%gc, %hc, Hc⟩
  ihave H' := Hs $$ Hp2'
  clear hs gs
  icases H' with ⟨%gs, %hs, Hs⟩
  ihave Hcr1 := (Entails.of_eq (show xPay (cont A) (stat A) 1 1 c = ((slotC crM 1).view.loc (c : Thread nD τ) ↦[(slotC crM 1).view.set]{fullShare} cont A 1 (peer 1 c)) from rfl)) $$ Hp1
  ihave Hsr1 := (Entails.of_eq (show xPay (cont A) (stat A) 3 1 c = ((slotS srM 1).view.loc (c : Thread nD τ) ↦[(slotS srM 1).view.set]{fullShare} stat A 1 (peer 1 c)) from rfl)) $$ Hp3
  sl_exec
  generalize hgc : cM.view.writes (Elt F) gc _ = gc1
  generalize hgs : sM.view.writes (Elt F) gs _ = gs1
  have hc0 : ∀ i ∈ (rectC 1).set, gc i = contOf (part A 1 c) i := fun i hi => hc i (set_slotC 1 ▸ hi)
  have hs0 : ∀ i ∈ (rectS 1).set, gs i = statOf (part A 1 c) i := fun i hi => hs i (set_slotS 1 ▸ hi)
  have hc1 : ∀ i ∈ (slotC cM 2).view.set, gc1 i = cont A 2 c i := by
    rw [← hgc]
    exact st0C (part A 1 c) (part A 1 (peer 1 c)) gc (val1C (part A 1 c) (part A 1 (peer 1 c)) gc gs hc0 hs0) 2
  have hs1 : ∀ i ∈ (slotS sM 2).view.set, gs1 i = stat A 2 c i := by
    rw [← hgs]
    exact st0S (part A 1 c) (part A 1 (peer 1 c)) gs (val1M (part A 1 c) (part A 1 (peer 1 c)) gs hs0)
      (val1S (part A 1 c) (part A 1 (peer 1 c)) gs hs0) 2
  clear hgc hgs hc0 hs0 hc hs
  clear gc gs
  rename' gc1 => gc, gs1 => gs, hc1 => hc, hs1 => hs
  ihave H' := (takeC cM 2 c gc (cont A 2 c) hc) $$ Hc
  icases H' with ⟨Hc0, Hc⟩
  ihave H' := (takeS sM 2 c gs (stat A 2 c) hs) $$ Hs
  icases H' with ⟨Hs0, Hs⟩
  unfold dues2
  icases HG2 with ⟨Ha0, Ha1, Ha2, Ha3, Ht0, Ht1, Ht2, Ht3⟩
  icases HC2 with ⟨Hr1, Hr3⟩
  iapply (wp_send_ctx (cont A) (stat A) K 2 c _ (dev8_eq c) p2 _ _) $$ [Hc0 HP2 HO Ht0 Ht1]
  · isplitr; · iexact HR
    isplitl [Hc0]; · iexact Hc0
    isplitl [HP2]; · iexact HP2
    isplitl [HO]; · iexact HO
    isplitl [Ht0]; · iexact Ht0
    iexact Ht1
  iintro ⟨Hr0, HO⟩
  sl_exec
  iapply (wp_send_st (cont A) (stat A) K 2 c _ (dev9_eq c) s2 _ _) $$ [Hs0 HS2 HO Ht2 Ht3]
  · isplitr; · iexact HR
    isplitl [Hs0]; · iexact Hs0
    isplitl [HS2]; · iexact HS2
    isplitl [HO]; · iexact HO
    isplitl [Ht2]; · iexact Ht2
    iexact Ht3
  iintro ⟨Hr2, HO⟩
  sl_exec
  iapply (wp_wait_x (cont A) (stat A) K 0 2 c (wpE_waitDma2_eq 𝒱₀ (c : Thread nD τ) none Set.univ) (creditC 2) _ (dues3 c)
    (mayWait c _ (dues3 c) 4 (by rw [show lv (_, _) () = _ from lv_x 0 2 c]; decide) (dues3_above c 4))) $$ [Hr0 HO Ha0]
  · isplitr; · iexact HR
    isplitr; · iexact Hlev
    isplitl [Hr0]; · iexact Hr0
    isplitl [HO]; · iexact HO
    iexact Ha0
  iintro ⟨HO, Hz20, Hp0⟩
  sl_exec
  iapply (wp_wait_x (cont A) (stat A) K 1 2 c (wpE_waitDma2_eq 𝒱₀ (c : Thread nD τ) none Set.univ) (creditCr 2) _ (dues3 c)
    (mayWait c _ (dues3 c) 4 (by rw [show lv (_, _) () = _ from lv_x 1 2 c]; decide) (dues3_above c 4))) $$ [Hr1 HO Ha1]
  · isplitr; · iexact HR
    isplitr; · iexact Hlev
    isplitl [Hr1]; · iexact Hr1
    isplitl [HO]; · iexact HO
    iexact Ha1
  iintro ⟨HO, Hz21, Hp1⟩
  sl_exec
  iapply (wp_wait_x (cont A) (stat A) K 2 2 c (wpE_waitDma2_eq 𝒱₀ (c : Thread nD τ) none Set.univ) (creditS 2) _ (dues3 c)
    (mayWait c _ (dues3 c) 4 (by rw [show lv (_, _) () = _ from lv_x 2 2 c]; decide) (dues3_above c 4))) $$ [Hr2 HO Ha2]
  · isplitr; · iexact HR
    isplitr; · iexact Hlev
    isplitl [Hr2]; · iexact Hr2
    isplitl [HO]; · iexact HO
    iexact Ha2
  iintro ⟨HO, Hz22, Hp2⟩
  sl_exec
  iapply (wp_wait_x (cont A) (stat A) K 3 2 c (wpE_waitDma2_eq 𝒱₀ (c : Thread nD τ) none Set.univ) (creditSr 2) _ (dues3 c)
    (mayWait c _ (dues3 c) 4 (by rw [show lv (_, _) () = _ from lv_x 3 2 c]; decide) (dues3_above c 4))) $$ [Hr3 HO Ha3]
  · isplitr; · iexact HR
    isplitr; · iexact Hlev
    isplitl [Hr3]; · iexact Hr3
    isplitl [HO]; · iexact HO
    iexact Ha3
  iintro ⟨HO, Hz23, Hp3⟩
  ihave Hp0' := (Entails.of_eq (show xPay (cont A) (stat A) 0 2 c = ptsC cM 2 c (cont A 2 c) from rfl)) $$ Hp0
  ihave Hp2' := (Entails.of_eq (show xPay (cont A) (stat A) 2 2 c = ptsS sM 2 c (stat A 2 c) from rfl)) $$ Hp2
  ihave H' := Hc $$ Hp0'
  clear hc gc
  icases H' with ⟨%gc, %hc, Hc⟩
  ihave H' := Hs $$ Hp2'
  clear hs gs
  icases H' with ⟨%gs, %hs, Hs⟩
  ihave Hcr2 := (Entails.of_eq (show xPay (cont A) (stat A) 1 2 c = ((slotC crM 2).view.loc (c : Thread nD τ) ↦[(slotC crM 2).view.set]{fullShare} cont A 2 (peer 2 c)) from rfl)) $$ Hp1
  ihave Hsr2 := (Entails.of_eq (show xPay (cont A) (stat A) 3 2 c = ((slotS srM 2).view.loc (c : Thread nD τ) ↦[(slotS srM 2).view.set]{fullShare} stat A 2 (peer 2 c)) from rfl)) $$ Hp3
  sl_exec
  generalize ho : (Memref.whole cc0_stg5_0).view.writes (Elt F) o _ = oo
  have hc0 : ∀ i ∈ (rectC 2).set, gc i = contOf (part A 2 c) i := fun i hi => hc i (set_slotC 2 ▸ hi)
  have hs0 : ∀ i ∈ (rectS 2).set, gs i = statOf (part A 2 c) i := fun i hi => hs i (set_slotS 2 ▸ hi)
  have hoo : oo = result A c := by
    rw [← ho]
    exact stOut' A c o (val2R (part A 2 c) (part A 2 (peer 2 c)) gc gs hc0 hs0 (rdWo (A.wo c)))
      (val2S (part A 2 c) (part A 2 (peer 2 c)) gc gs hc0 hs0 (rdWo (A.wo c)))
  clear ho
  subst hoo
  rw [wp_ret]
  imodintro
  iapply HK
  unfold bodyPost staged stepZ landing
  isplitl [HO]; · iexists _; iexact HO
  isplitl [Hx Hq Hk Hv Hwo]
  · isplitl [Hx]; · iexact Hx
    isplitl [Hq]; · iexact Hq
    isplitl [Hk]; · iexact Hk
    isplitl [Hv]; · iexact Hv
    iexact Hwo
  isplitl [Hout]; · iexact Hout
  isplitl [Hc Hs Hcr0 Hcr1 Hcr2 Hsr0 Hsr1 Hsr2]
  · isplitl [Hc]; · iexists gc; iexact Hc
    isplitl [Hs]; · iexists gs; iexact Hs
    isplitl [Hcr0 Hsr0]
    · isplitl [Hcr0]
      · iexists (cont A 0 (peer 0 c)); unfold ptsC; iexact Hcr0
      · iexists (stat A 0 (peer 0 c)); unfold ptsS; iexact Hsr0
    isplitl [Hcr1 Hsr1]
    · isplitl [Hcr1]
      · iexists (cont A 1 (peer 1 c)); unfold ptsC; iexact Hcr1
      · iexists (stat A 1 (peer 1 c)); unfold ptsS; iexact Hsr1
    isplitl [Hcr2]
    · iexists (cont A 2 (peer 2 c)); unfold ptsC; iexact Hcr2
    · iexists (stat A 2 (peer 2 c)); unfold ptsS; iexact Hsr2
  isplitl [HzB]; · iexact HzB
  isplitl [Hz00 Hz01 Hz02 Hz03]
  · isplitl [Hz00]; · iexact Hz00
    isplitl [Hz01]; · iexact Hz01
    isplitl [Hz02]; · iexact Hz02
    iexact Hz03
  isplitl [Hz10 Hz11 Hz12 Hz13]
  · isplitl [Hz10]; · iexact Hz10
    isplitl [Hz11]; · iexact Hz11
    isplitl [Hz12]; · iexact Hz12
    iexact Hz13
  isplitl [Hz20]; · iexact Hz20
  isplitl [Hz21]; · iexact Hz21
  isplitl [Hz22]; · iexact Hz22
  iexact Hz23

end Cert.Tree

end
-- ==== Proof.Launch.lean ====
/-
# The launch: from one device's body to the run of the program

Every device's thirteen cells are opened at launch, the twelve transfer semaphores of the kernel and the barrier
semaphore of the runtime; each payer is handed the tokens of what it pays; and the run of the program follows from the
run of the body. At the end every device's output array holds `result` of the argument arrays, the arguments are as
they were, and every semaphore counter is zero.
-/
module

public import proofs.«01_k».proof.Proof.Body
public import Idealize.ShloMosaic.Lib.Pipeline.CollectiveSegs
public import Idealize.ShloMosaic.Lib.Quiescent

@[expose] public section

set_option maxRecDepth 16384

noncomputable section

namespace Cert.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch, every counter zero. -/
def s₀ : MemSt nD τ sig (Elt F) := ⟨m, fun _ => 0, ρ⟩

/-! ## The arguments -/

/-- What the pipeline stages of each argument: the window's one block. -/
def argsOf : Args F where
  x c := (win0_0.blk (0 : Fin 1)).view.read (Elt F) (m ((c : Thread nD τ).loc main_arg0))
  wq c := (win0_1.blk (0 : Fin 1)).view.read (Elt F) (m ((c : Thread nD τ).loc main_arg1))
  k c := (win0_2.blk (0 : Fin 1)).view.read (Elt F) (m ((c : Thread nD τ).loc main_arg2))
  v c := (win0_3.blk (0 : Fin 1)).view.read (Elt F) (m ((c : Thread nD τ).loc main_arg3))
  wo c := (win0_4.blk (0 : Fin 1)).view.read (Elt F) (m ((c : Thread nD τ).loc main_arg4))

/-! ## Landing slots and landing buffers -/

/-- The elements of slot `r`. -/
def setC (r : Fin 3) : Finset S3x2x4x128x64.Idx := (slotC crM r).view.set
def setS (r : Fin 3) : Finset S3x2x2x4x128.Idx := (slotS srM r).view.set
/-- An index lies in slot `r` of the received contexts when its first coordinate is `r`. -/
theorem mem_setC {r : Fin 3} {i : S3x2x4x128x64.Idx} : i ∈ setC r ↔ (i 0).val = r.val := by
  unfold setC; rw [set_slotCr]; exact mem_rectC
/-- An index lies in slot `r` of the received statistics when its first coordinate is `r`. -/
theorem mem_setS {r : Fin 3} {i : S3x2x2x4x128.Idx} : i ∈ setS r ↔ (i 0).val = r.val := by
  unfold setS; rw [set_slotSr]; exact mem_rectS

/-- Two slots of the received contexts share no element. -/
theorem disjC (r r' : Fin 3) (h : r ≠ r') : Disjoint (setC r) (setC r') :=
  Finset.disjoint_left.mpr fun i hi hi' => h (Fin.ext ((mem_setC.mp hi).symm.trans (mem_setC.mp hi')))
/-- Two slots of the received statistics share no element. -/
theorem disjS (r r' : Fin 3) (h : r ≠ r') : Disjoint (setS r) (setS r') :=
  Finset.disjoint_left.mpr fun i hi hi' => h (Fin.ext ((mem_setS.mp hi).symm.trans (mem_setS.mp hi')))
/-- The three slots are all of the received contexts. -/
theorem coverC : Finset.univ.biUnion setC = Finset.univ :=
  Finset.eq_univ_iff_forall.mpr fun i => Finset.mem_biUnion.mpr ⟨(i 0 : Fin 3), Finset.mem_univ _, mem_setC.mpr rfl⟩
/-- The three slots are all of the received statistics. -/
theorem coverS : Finset.univ.biUnion setS = Finset.univ :=
  Finset.eq_univ_iff_forall.mpr fun i => Finset.mem_biUnion.mpr ⟨(i 0 : Fin 3), Finset.mem_univ _, mem_setS.mpr rfl⟩

/-- A product over the three rounds, written out. -/
theorem three (Φ : Fin 3 → sProp 𝕄) : bigSep Finset.univ Φ = iprop(Φ 0 ∗ Φ 1 ∗ Φ 2) :=
  bigSep_univ_eq_bigSepL [0, 1, 2] (by decide) (by decide) Φ

/-- A landing buffer is its three slots; -/
theorem splitC (c : Dev nD) (f : Buf (Elt F) (crM.view.loc (c : Thread nD τ))) :
    (crM.view.loc (c : Thread nD τ) ↦{fullShare} f : sProp 𝕄) ⊢ iprop(ptsC crM 0 c f ∗ ptsC crM 1 c f ∗ ptsC crM 2 c f) :=
  Entails.of_eq ((Ring.pointsTo_blocks (ℓ := crM.view.loc (c : Thread nD τ)) setC disjC coverC f).trans (three _))
/-- The same for the landing buffer of the statistics; -/
theorem splitS (c : Dev nD) (f : Buf (Elt F) (srM.view.loc (c : Thread nD τ))) :
    (srM.view.loc (c : Thread nD τ) ↦{fullShare} f : sProp 𝕄) ⊢ iprop(ptsS srM 0 c f ∗ ptsS srM 1 c f ∗ ptsS srM 2 c f) :=
  Entails.of_eq ((Ring.pointsTo_blocks (ℓ := srM.view.loc (c : Thread nD τ)) setS disjS coverS f).trans (three _))
/-- and three slots, each at something, are the buffer at something. -/
theorem joinC (c : Dev nD) (f₀ : Buf (Elt F) (crM.view.loc (c : Thread nD τ))) :
    iprop((∃ f, ptsC crM 0 c f) ∗ (∃ f, ptsC crM 1 c f) ∗ ∃ f, ptsC crM 2 c f)
      ⊢ (iprop(∃ f, crM.view.loc (c : Thread nD τ) ↦{fullShare} f) : sProp 𝕄) :=
  (Entails.of_eq (three (fun r : Fin 3 => iprop(∃ f, ptsC (F := F) crM r c f))).symm).trans
    (Ring.pointsTo_blocks_join_exists (ℓ := crM.view.loc (c : Thread nD τ)) setC disjC coverC f₀)
/-- The same for the slots of the statistics. -/
theorem joinS (c : Dev nD) (f₀ : Buf (Elt F) (srM.view.loc (c : Thread nD τ))) :
    iprop((∃ f, ptsS srM 0 c f) ∗ (∃ f, ptsS srM 1 c f) ∗ ∃ f, ptsS srM 2 c f)
      ⊢ (iprop(∃ f, srM.view.loc (c : Thread nD τ) ↦{fullShare} f) : sProp 𝕄) :=
  (Entails.of_eq (three (fun r : Fin 3 => iprop(∃ f, ptsS (F := F) srM r c f))).symm).trans
    (Ring.pointsTo_blocks_join_exists (ℓ := srM.view.loc (c : Thread nD τ)) setS disjS coverS f₀)

/-! ## The pipeline's data -/

/-- The grid has one point. -/
theorem cfg0_N : cfg0.N = 1 := by decide
def t₀ : Fin cfg0.N := ⟨0, by rw [cfg0_N]; decide⟩
/-- Every grid point is that one. -/
theorem fin_N (t : Fin cfg0.N) : t = t₀ := by
  obtain ⟨t, ht⟩ := t
  have := cfg0_N
  exact Fin.ext (by simp only [t₀]; omega)

/-- What device `c`'s body starts from, but for the buffers: records, positions, tokens, credits, levels. -/
def ghost (K : Dev nD × Cell → ℕ) (c : Dev nD) : sProp 𝕄 :=
  iprop(recs (cont (argsOf m)) (stat (argsOf m)) K ∗ (barG c ∗ stepG 0 c ∗ stepG 1 c ∗ stepG 2 c))
def credit (c : Dev nD) : sProp 𝕄 := iprop(cred (tallyAt (barCell c) () 3) ∗ stepC 0 c ∗ stepC 1 c ∗ stepC 2 c)
def start (c : Dev nD) : sProp 𝕄 := iprop((∃ K, ghost m K c) ∗ credit c ∗ levAts L lv)
/-- The four scratch buffers, at something. -/
def scratch (c : Dev nD) : sProp 𝕄 :=
  iprop((∃ f, cM.view.loc (c : Thread nD τ) ↦{fullShare} f) ∗ (∃ f, crM.view.loc (c : Thread nD τ) ↦{fullShare} f)
    ∗ (∃ f, sM.view.loc (c : Thread nD τ) ↦{fullShare} f) ∗ (∃ f, srM.view.loc (c : Thread nD τ) ↦{fullShare} f))
/-- Every semaphore of the device at zero. -/
def zeros (c : Dev nD) : sProp 𝕄 := iprop(semVal (barCell c) 0 ∗ stepZ 0 c ∗ stepZ 1 c ∗ stepZ 2 c)

def Φ₀ (c : Dev nD) : sProp 𝕄 := iprop(start m c ∗ scratch c)
def Φ₁ (c : Dev nD) : sProp 𝕄 := iprop(scratch (F := F) c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (argsOf m).x c
    | ⟨1, _⟩ => (argsOf m).wq c
    | ⟨2, _⟩ => (argsOf m).k c
    | ⟨3, _⟩ => (argsOf m).v c
    | ⟨4, _⟩ => (argsOf m).wo c
    | ⟨5, _⟩ => result (argsOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-- To own a whole buffer at some contents is to hold all of it at them. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at the contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

set_option maxRecDepth 4000 in
def obPre (c : Dev nD) : sProp 𝕄 :=
  iprop(Φ₀ m c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

set_option maxRecDepth 4000 in
def obPost (c : Dev nD) : sProp 𝕄 :=
  iprop(Φ₁ (F := F) c ∗ (dats m ρ 0 c).owesAt () t₀.succ
    ∗ stg c cc0_stg0_0 ((argsOf m).x c) ∗ stg c cc0_stg1_0 ((argsOf m).wq c) ∗ stg c cc0_stg2_0 ((argsOf m).k c)
    ∗ stg c cc0_stg3_0 ((argsOf m).v c) ∗ stg c cc0_stg4_0 ((argsOf m).wo c) ∗ stg c cc0_stg5_0 (result (argsOf m) c))

/-- Before the point the first staging buffer holds the activations, -/
theorem before_x (c : Dev nD) (d) : (dats m ρ 0 c).before (0 : Fin 6) t₀ d = (argsOf m).x c := by
  unfold Dat.before; rw [if_pos (fetch0_0 t₀)]; rfl
/-- the second the query weights, -/
theorem before_wq (c : Dev nD) (d) : (dats m ρ 0 c).before (1 : Fin 6) t₀ d = (argsOf m).wq c := by
  unfold Dat.before; rw [if_pos (fetch0_1 t₀)]; rfl
/-- the third the keys, -/
theorem before_k (c : Dev nD) (d) : (dats m ρ 0 c).before (2 : Fin 6) t₀ d = (argsOf m).k c := by
  unfold Dat.before; rw [if_pos (fetch0_2 t₀)]; rfl
/-- the fourth the values, -/
theorem before_v (c : Dev nD) (d) : (dats m ρ 0 c).before (3 : Fin 6) t₀ d = (argsOf m).v c := by
  unfold Dat.before; rw [if_pos (fetch0_3 t₀)]; rfl
/-- and the fifth the output weights. -/
theorem before_wo (c : Dev nD) (d) : (dats m ρ 0 c).before (4 : Fin 6) t₀ d = (argsOf m).wo c := by
  unfold Dat.before; rw [if_pos (fetch0_4 t₀)]; rfl

/-- What the body leaves is what the pipeline asks after the point. -/
theorem post_of_body (c : Dev nD) : bodyPost (argsOf m) c ⊢ obPost m ρ c := by
  unfold bodyPost obPost Φ₁ scratch zeros staged landing Dat.owesAt Pipeline.owesWithin
  rw [show (dats m ρ 0 c).owed t₀.succ = 0 from rfl]
  iintro ⟨⟨%W', HO⟩, ⟨Hx, Hq, Hk, Hv, Hw⟩, Ho, ⟨Hc, Hs, ⟨Hc0, Hs0⟩, ⟨Hc1, Hs1⟩, ⟨Hc2, Hs2⟩⟩, Hz⟩
  ihave HC := (joinC c (cont (argsOf m) 0 c)) $$ [Hc0 Hc1 Hc2]
  · isplitl [Hc0]; · iexact Hc0
    isplitl [Hc1]; · iexact Hc1
    iexact Hc2
  ihave HS := (joinS c (stat (argsOf m) 0 c)) $$ [Hs0 Hs1 Hs2]
  · isplitl [Hs0]; · iexact Hs0
    isplitl [Hs1]; · iexact Hs1
    iexact Hs2
  isplitl [Hc HC Hs HS Hz]
  · isplitl [Hc HC Hs HS]
    · isplitl [Hc]; · iexact Hc
      isplitl [HC]; · iexact HC
      isplitl [Hs]; · iexact Hs
      iexact HS
    iexact Hz
  isplitl [HO]
  · iexists W'; isplitr; · ipureintro; exact fun _ _ => Or.inl trivial
    iexact HO
  unfold stg
  isplitl [Hx]
  · iexists _; isplitr; · (ipureintro; rfl)
    iexact Hx
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  isplitl [Hw]
  · iexists _; isplitr; · (ipureintro; rfl)
    iexact Hw
  iexists _; isplitr; · (ipureintro; rfl)
  iexact Ho

set_option maxRecDepth 4000 in
/-- The library's body obligation of device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show obPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      cM (Memref.isWhole_whole _) crM (Memref.isWhole_whole _) sM (Memref.isWhole_whole _) srM (Memref.isWhole_whole _)
      cc0_scratch4 cc0_scratch5 cc0_scratch6 cc0_scratch7) (fun _ => obPost m ρ c)
  unfold obPre Φ₀ start ghost credit scratch Dat.owesAt Pipeline.owesWithin stg
  simp only [before_x, before_wq, before_k, before_v, before_wo]
  rw [show (dats m ρ 0 c).owed t₀.castSucc = O₀ c from rfl]
  iintro ⟨⟨⟨⟨%K, HR, HG⟩, HC, Hlev⟩, ⟨%f6, H6⟩, ⟨%f7, H7⟩, ⟨%f8, H8⟩, ⟨%f9, H9⟩⟩, ⟨%W, %hW, HO⟩, ⟨%d0, %g0, %e0, Hx⟩, ⟨%d1, %g1, %e1, Hq⟩, ⟨%d2, %g2, %e2, Hk⟩, ⟨%d3, %g3, %e3, Hv⟩, ⟨%d4, %g4, %e4, Hw⟩, ⟨%d5, %g5, %e5, Ho⟩⟩
  subst e0 e1 e2 e3 e4
  iapply (sound_body (argsOf m) K c (fun _ => obPost m ρ c) W g5 f6 f8)
  ihave HL := (splitC c f7) $$ H7
  icases HL with ⟨Hc0, Hc1, Hc2⟩
  ihave HL := (splitS c f9) $$ H9
  icases HL with ⟨Hs0, Hs1, Hs2⟩
  isplitr []
  · unfold bodyPre staged landing
    isplitl [HR]; · iexact HR
    isplitl [Hlev]; · iexact Hlev
    isplitl [HG]; · iexact HG
    isplitl [HC]; · iexact HC
    isplitl [HO]; · iexact HO
    isplitl [Hx Hq Hk Hv Hw]
    · isplitl [Hx]; · iexact Hx
      isplitl [Hq]; · iexact Hq
      isplitl [Hk]; · iexact Hk
      isplitl [Hv]; · iexact Hv
      iexact Hw
    isplitl [Ho]; · iexact Ho
    isplitl [H6]; · iexact H6
    isplitl [H8]; · iexact H8
    isplitl [Hc0 Hs0]
    · isplitl [Hc0]; · (iexists f7; iexact Hc0)
      iexists f9; iexact Hs0
    isplitl [Hc1 Hs1]
    · isplitl [Hc1]; · (iexists f7; iexact Hc1)
      iexists f9; iexact Hs1
    isplitl [Hc2]; · (iexists f7; iexact Hc2)
    iexists f9; iexact Hs2
  · iintro H; iapply (post_of_body m ρ c); iexact H

/-! ## Funding the cells -/

/-- The kernel's own semaphores: the four kinds in the three rounds. -/
abbrev osem : Fin 12 → SemLoc sig := fun
  | 0 => .dma (semX 0 0) | 1 => .dma (semX 1 0) | 2 => .dma (semX 2 0) | 3 => .dma (semX 3 0)
  | 4 => .dma (semX 0 1) | 5 => .dma (semX 1 1) | 6 => .dma (semX 2 1) | 7 => .dma (semX 3 1)
  | 8 => .dma (semX 0 2) | 9 => .dma (semX 1 2) | 10 => .dma (semX 2 2) | 11 => .dma (semX 3 2)

/-- The transfer semaphores are the kernel's own and differ from those of the staging copies. -/
theorem ownSemFacts : Pipeline.OwnSemFacts cfg0.spec osem := by decide +kernel

/-- Every window's array is held outright. -/
theorem share_eq (c : Dev nD) (w : Fin cfg0.W) : (dats m ρ 0 c).share w = fullShare := by unfold Dat.share; split <;> rfl

/-- Transfer cells of different kind, round or device differ. -/
theorem xCell_inj {k k' : Fin 4} {r r' : Fin 3} {c c' : Dev nD} (h : xCell k r c = xCell k' r' c') : k = k' ∧ r = r' ∧ c = c' := by
  have h1 : c = c' := congrArg (fun g : GSem nD τ sig => g.1.1) h
  have h2 : SemLoc.dma (semX k r) = (SemLoc.dma (semX k' r') : SemLoc sig) := congrArg (fun g : GSem nD τ sig => g.2) h
  have h3 := semX_inj (k, r) (k', r') (by injection h2)
  exact ⟨congrArg Prod.fst h3, congrArg Prod.snd h3, h1⟩
/-- A barrier cell is no transfer cell. -/
theorem bar_ne_x {k : Fin 4} {r : Fin 3} {c c' : Dev nD} (h : barCell c = xCell k r c') : False :=
  dma_ne_bar _ (congrArg (fun g : GSem nD τ sig => g.2) h).symm

/-- Different names name different cells. -/
theorem kcell_injective : Function.Injective kcell := by
  rintro ⟨c, k⟩ ⟨c', k'⟩ h
  rcases k with _ | ⟨k, r⟩ <;> rcases k' with _ | ⟨k', r'⟩
  · have h1 : c = c' := congrArg (fun g : GSem nD τ sig => g.1.1) h
    rw [h1]
  · exact (bar_ne_x h).elim
  · exact (bar_ne_x h.symm).elim
  · obtain ⟨rfl, rfl, rfl⟩ := xCell_inj h
    rfl

def cellSet : Finset (GSem nD τ sig) := Finset.univ.map ⟨kcell, kcell_injective⟩

/-- The duty tokens of a device's own cells, by round: the barrier's duty of that round, and the four transfers'. -/
def tokOf (p : Dev nD × (Fin 3 × Option (Fin 4))) : GSem nD τ sig × ℕ × Fin 3 := match p.2.2 with
  | none => (barCell p.1, 0, p.2.1)
  | some k => (xCell k p.2.1 p.1, 0, 0)

/-- Different names name different tokens. -/
theorem tokOf_injective : Function.Injective tokOf := by
  rintro ⟨c, r, k⟩ ⟨c', r', k'⟩ h
  rcases k with _ | k <;> rcases k' with _ | k'
  · have h1 : c = c' := congrArg (fun x : GSem nD τ sig × ℕ × Fin 3 => x.1.1.1) h
    have h2 : r = r' := congrArg (fun x : GSem nD τ sig × ℕ × Fin 3 => x.2.2) h
    rw [h1, h2]
  · exact (bar_ne_x (congrArg Prod.fst h)).elim
  · exact (bar_ne_x (congrArg Prod.fst h).symm).elim
  · obtain ⟨rfl, rfl, rfl⟩ := xCell_inj (congrArg Prod.fst h)
    rfl

def tokSet : Finset (GSem nD τ sig × ℕ × Fin 3) := Finset.univ.map ⟨tokOf, tokOf_injective⟩

def u₀ : UU := (initOf (Pipeline.cells cfgs cellOf_inj) (Pipeline.launchToks cfgs cellOf_inj), initOf cellSet tokSet)

/-- The tokens of round `r` of device `c`'s cells; -/
def toks (r : Fin 3) (c : Dev nD) : sProp 𝕄 :=
  iprop(dutyTok EX (barCell c) 0 r ∗ dutyTok EX (xCell 0 r c) 0 (0 : Fin 3) ∗ dutyTok EX (xCell 1 r c) 0 (0 : Fin 3)
    ∗ dutyTok EX (xCell 2 r c) 0 (0 : Fin 3) ∗ dutyTok EX (xCell 3 r c) 0 (0 : Fin 3))
/-- and those that device `c` pays in round `r`. -/
def pays (r : Fin 3) (c : Dev nD) : sProp 𝕄 :=
  iprop(dutyTok EX (barCell (peer r c)) 0 r ∗ dutyTok EX (xCell 0 r c) 0 (0 : Fin 3) ∗ dutyTok EX (xCell 1 r (peer r c)) 0 (0 : Fin 3)
    ∗ dutyTok EX (xCell 2 r c) 0 (0 : Fin 3) ∗ dutyTok EX (xCell 3 r (peer r c)) 0 (0 : Fin 3))

def positions (c : Dev nD) : sProp 𝕄 := bigSep Finset.univ fun k : Cell => iprop(atPos EX (kcell (c, k)) 0 ∅ 0 ∗ reached EX (kcell (c, k)) 0)

/-- What the launch deals device `c`. -/
def G (c : Dev nD) : sProp 𝕄 :=
  iprop((bigSep Finset.univ fun k : Cell => roundState EX (xRd (cont (argsOf m)) (stat (argsOf m))) (kcell (c, k)) 0)
    ∗ positions c ∗ bigSep Finset.univ fun r : Fin 3 => toks r c)
/-- What becomes of it once every cell is open. -/
def G' (c : Dev nD) : sProp 𝕄 := iprop(∃ K, ghost m K c)

/-- A product over the barrier and the four kinds of transfer, written out. -/
theorem fives (Φ : Option (Fin 4) → sProp 𝕄) : bigSep Finset.univ Φ = iprop(Φ none ∗ Φ (some 0) ∗ Φ (some 1) ∗ Φ (some 2) ∗ Φ (some 3)) :=
  bigSep_univ_eq_bigSepL [none, some 0, some 1, some 2, some 3] (by decide) (by decide) Φ

/-- A device's cells, the barrier first and then round by round. -/
theorem cells_eq (Φ : Cell → sProp 𝕄) : bigSep Finset.univ Φ
    = iprop(Φ none ∗ (Φ (some (0, 0)) ∗ Φ (some (1, 0)) ∗ Φ (some (2, 0)) ∗ Φ (some (3, 0)) ∗ Φ (some (0, 1)) ∗ Φ (some (1, 1))
      ∗ Φ (some (2, 1)) ∗ Φ (some (3, 1)) ∗ Φ (some (0, 2)) ∗ Φ (some (1, 2)) ∗ Φ (some (2, 2)) ∗ Φ (some (3, 2)))) :=
  bigSep_univ_eq_bigSepL [none, some (0, 0), some (1, 0), some (2, 0), some (3, 0), some (0, 1), some (1, 1), some (2, 1), some (3, 1),
    some (0, 2), some (1, 2), some (2, 2), some (3, 2)] (by decide) (by decide) Φ

/-- The initial ghost state gives every device its cells, positions and tokens. -/
theorem fund : BI.own (EX (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : Cell => Φ (kcell (c, k)) := by
    unfold cellSet; rw [bigSep_map, bigSep_univ_prod]; rfl
  have hT : bigSep tokSet (fun x => (dutyTok EX x.1 x.2.1 x.2.2 : sProp 𝕄))
      = bigSep Finset.univ fun c : Dev nD => bigSep Finset.univ fun r : Fin 3 => toks r c := by
    unfold tokSet; rw [bigSep_map, bigSep_univ_prod]
    refine bigSep_congr fun c _ => ?_
    rw [bigSep_univ_prod]
    exact bigSep_congr fun r _ => by unfold toks; rw [fives]; rfl
  iintro HX
  imod (Rounds.fund EX (xRd (cont (argsOf m)) (stat (argsOf m))) cellSet tokSet) $$ HX with ⟨Hst, Hr, Hat, Htok⟩
  imodintro
  ihave Hst' := (Entails.of_eq (hX fun g => roundState EX (xRd (cont (argsOf m)) (stat (argsOf m))) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G positions; simp only [bigSep_sep']
  isplitl [Hst']; · iexact Hst'
  isplitl [Hat' Hr']
  · isplitl [Hat'] <;> iassumption
  iexact Htok'

/-- A device's own semaphores at zero are its twelve transfer cells at zero. -/
theorem ownSems0_eq (c : Dev nD) : (Pipeline.ownSems0 (Ix := Unit) (Name := ℕ) (U := UU) (Lvl := ℕ) (Val := Elt F) (τ := τ) osem c : sProp 𝕄)
    = iprop(semVal (xCell 0 0 c) 0 ∗ semVal (xCell 1 0 c) 0 ∗ semVal (xCell 2 0 c) 0 ∗ semVal (xCell 3 0 c) 0
      ∗ semVal (xCell 0 1 c) 0 ∗ semVal (xCell 1 1 c) 0 ∗ semVal (xCell 2 1 c) 0 ∗ semVal (xCell 3 1 c) 0
      ∗ semVal (xCell 0 2 c) 0 ∗ semVal (xCell 1 2 c) 0 ∗ semVal (xCell 2 2 c) 0 ∗ semVal (xCell 3 2 c) 0) := by
  rw [Pipeline.ownSems0_eq_of_list c osem [0, 1, 2, 3, 4, 5, 6, 7, 8, 9, 10, 11] (by decide) (by decide)]; rfl
/-- The one semaphore beside them is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- All of a device's cells are at zero. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, cells_eq]
  iintro ⟨HX, HB⟩
  isplitl [HB]; · iexact HB
  iexact HX

/-- One device's cells opened. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv EX (xRd (cont (argsOf m)) (stat (argsOf m))) κ (kcell (c, k))))
          ∗ positions c ∗ bigSep Finset.univ fun r : Fin 3 => toks r c) := by
  unfold G
  iintro ⟨Hos, Hus, Hst, Hat, Htok⟩
  ihave Hv := (sems0 (F := F) c) $$ [Hos Hus]
  · isplitl [Hos] <;> iassumption
  imod (show iprop((bigSep Finset.univ fun k : Cell => semVal (kcell (c, k)) 0)
        ∗ bigSep Finset.univ fun k : Cell => roundState EX (xRd (cont (argsOf m)) (stat (argsOf m))) (kcell (c, k)) 0)
      ⊢ (|={Set.univ}=> bigSep Finset.univ fun k : Cell => iprop(∃ κ : ℕ, cellInv EX (xRd (cont (argsOf m)) (stat (argsOf m))) κ (kcell (c, k))) : sProp 𝕄) from by
        rw [← bigSep_sep']
        exact (bigSep_mono fun k _ => (Rounds.body_intro EX _ (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of round `r` handed to their payers. -/
theorem deal (r : Fin 3) : (bigSep Finset.univ fun c : Dev nD => (toks r c : sProp 𝕄)) ⊢ bigSep Finset.univ fun c : Dev nD => pays r c := by
  unfold toks pays
  simp only [bigSep_sep']
  rw [bigSep_univ_equiv (swap r) (fun c : Dev nD => (dutyTok EX (barCell c) 0 r : sProp 𝕄)),
    bigSep_univ_equiv (swap r) (fun c : Dev nD => (dutyTok EX (xCell 1 r c) 0 (0 : Fin 3) : sProp 𝕄)),
    bigSep_univ_equiv (swap r) (fun c : Dev nD => (dutyTok EX (xCell 3 r c) 0 (0 : Fin 3) : sProp 𝕄))]
  exact BI.Entails.refl _

/-- The tokens, held where they are collected, go to the devices that pay with them. -/
theorem deal_all : (bigSep Finset.univ fun c : Dev nD => bigSep Finset.univ fun r : Fin 3 => (toks r c : sProp 𝕄))
    ⊢ bigSep Finset.univ fun c : Dev nD => iprop(pays 0 c ∗ pays 1 c ∗ pays 2 c) := by
  simp only [three, bigSep_sep']
  iintro ⟨H0, H1, H2⟩
  isplitl [H0]; · iapply (deal (F := F) 0); iexact H0
  isplitl [H1]; · iapply (deal (F := F) 1); iexact H1
  iapply (deal (F := F) 2); iexact H2

/-- One device's share of the ghost state, from the records, its positions and the tokens it pays. -/
theorem ghost_intro (K : Dev nD × Cell → ℕ) (c : Dev nD) :
    iprop(recs (cont (argsOf m)) (stat (argsOf m)) K
      ∗ ((bigSep Finset.univ fun k : Cell => (atPos EX (kcell (c, k)) 0 ∅ 0 : sProp 𝕄)) ∗ (pays 0 c ∗ pays 1 c ∗ pays 2 c))) ⊢ G' m c := by
  rw [cells_eq]
  unfold G' ghost barG stepG pays
  iintro ⟨HR, ⟨HaB, A00, A10, A20, A30, A01, A11, A21, A31, A02, A12, A22, A32⟩,
    ⟨B0, T00, T10, T20, T30⟩, ⟨B1, T01, T11, T21, T31⟩, ⟨B2, T02, T12, T22, T32⟩⟩
  iexists K
  isplitl [HR]; · iexact HR
  isplitl [HaB B0 B1 B2]
  · isplitl [HaB]; · iexact HaB
    isplitl [B0]; · iexact B0
    isplitl [B1]; · iexact B1
    iexact B2
  isplitl [A00 A10 A20 A30 T00 T10 T20 T30]
  · isplitl [A00]; · iexact A00
    isplitl [A10]; · iexact A10
    isplitl [A20]; · iexact A20
    isplitl [A30]; · iexact A30
    isplitl [T00]; · iexact T00
    isplitl [T10]; · iexact T10
    isplitl [T20]; · iexact T20
    iexact T30
  isplitl [A01 A11 A21 A31 T01 T11 T21 T31]
  · isplitl [A01]; · iexact A01
    isplitl [A11]; · iexact A11
    isplitl [A21]; · iexact A21
    isplitl [A31]; · iexact A31
    isplitl [T01]; · iexact T01
    isplitl [T11]; · iexact T11
    isplitl [T21]; · iexact T21
    iexact T31
  isplitl [A02]; · iexact A02
  isplitl [A12]; · iexact A12
  isplitl [A22]; · iexact A22
  isplitl [A32]; · iexact A32
  isplitl [T02]; · iexact T02
  isplitl [T12]; · iexact T12
  isplitl [T22]; · iexact T22
  iexact T32

/-- A persistent fact serves every factor of a product. -/
theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Opened cells, positions and tokens give every device its share of the ghost state. -/
theorem regroup :
    (bigSep Finset.univ fun c : Dev nD => iprop((bigSep Finset.univ fun k : Cell => iprop(∃ κ : ℕ, cellInv EX (xRd (cont (argsOf m)) (stat (argsOf m))) κ (kcell (c, k))))
          ∗ positions c ∗ bigSep Finset.univ fun r : Fin 3 => toks r c) : sProp 𝕄)
      ⊢ bigSep Finset.univ (G' m) := by
  unfold positions
  rw [bigSep_sep', bigSep_sep', ← bigSep_univ_prod (fun p : Dev nD × Cell => iprop(∃ κ : ℕ, cellInv EX (xRd (cont (argsOf m)) (stat (argsOf m))) κ (kcell p))),
    bigSep_congr (s := Finset.univ) (fun (c : Dev nD) _ => bigSep_sep' Finset.univ (fun k : Cell => (atPos EX (kcell (c, k)) 0 ∅ 0 : sProp 𝕄)) (fun k => reached EX (kcell (c, k)) 0)),
    bigSep_sep', ← bigSep_univ_prod (fun p : Dev nD × Cell => (reached EX (kcell p) 0 : sProp 𝕄))]
  iintro ⟨HI, ⟨Hat, #HR⟩, Htok⟩
  ihave HK := (BI.bigSep_exists_pi Finset.univ (fun (p : Dev nD × Cell) (κ : ℕ) => (cellInv EX (xRd (cont (argsOf m)) (stat (argsOf m))) κ (kcell p) : sProp 𝕄))) $$ HI
  icases HK with ⟨%K, #HI⟩
  ihave Htk := (deal_all (F := F)) $$ Htok
  iapply (with_shared (R := recs (cont (argsOf m)) (stat (argsOf m)) K) fun c _ => ghost_intro m K c)
  isplitr
  · unfold recs; isplitl; · iexact HI
    iexact HR
  · iapply (Entails.of_eq (bigSep_sep' Finset.univ (fun c : Dev nD => bigSep Finset.univ fun k : Cell => (atPos EX (kcell (c, k)) 0 ∅ 0 : sProp 𝕄))
      (fun c => iprop(pays 0 c ∗ pays 1 c ∗ pays 2 c))).symm)
    isplitl [Hat]; · iexact Hat
    iexact Htk

/-- From semaphores at zero and the initial ghost state, every device gets its share. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (regroup m))

/-! ## Credits -/

/-- What is due to a device's cells is due on that device alone. -/
theorem due1_self (r : Fin 3) (d : Dev nD) (g : GSem nD τ sig) (h : due1 r d g ≠ 0) : g.1 = (d.tc : Thread nD τ) := by
  by_contra hne
  refine h ?_
  unfold due1
  rw [Pi.add_apply, Pi.add_apply, tallyAt_ne_cell fun e => hne (by rw [e]), tallyAt_ne_cell fun e => hne (by rw [e]),
    tallyAt_ne_cell fun e => hne (by rw [e]), add_zero, add_zero]

/-- The launch's credit for a device is one for the barrier and one for each transfer it receives. -/
theorem credits (c : Dev nD) : (Pipeline.launchCred O₀ c : sProp 𝕄) ⊢ credit c := by
  rw [Pipeline.launchCred_of_sum O₀ (fun c => due1 0 c + due1 1 c + due1 2 c) sum_owe (fun d g h => by
    by_contra hne
    refine h ?_
    rw [Pi.add_apply, Pi.add_apply, not_not.mp (fun h0 => hne (due1_self 0 d g h0)), not_not.mp (fun h0 => hne (due1_self 1 d g h0)),
      not_not.mp (fun h0 => hne (due1_self 2 d g h0)), add_zero, add_zero]) c]
  have e : due1 0 c + due1 1 c + due1 2 c = (tallyAt (barCell c) () 1 + tallyAt (barCell c) () 1 + tallyAt (barCell c) () 1)
      + ((tallyAt (xCell 1 0 c) () NC + tallyAt (xCell 3 0 c) () NS) + ((tallyAt (xCell 1 1 c) () NC + tallyAt (xCell 3 1 c) () NS)
        + (tallyAt (xCell 1 2 c) () NC + tallyAt (xCell 3 2 c) () NS))) := by
    unfold due1; ac_rfl
  have e3 : (tallyAt (barCell c) () 1 + tallyAt (barCell c) () 1 + tallyAt (barCell c) () 1 : CellTallies nD τ sig Unit) = tallyAt (barCell c) () 3 := by
    rw [tallyAt_add, tallyAt_add]
  rw [e, e3]
  unfold credit stepC
  have h (a b : CellTallies nD τ sig Unit) : (cred (a + b) : sProp 𝕄) = iprop(cred a ∗ cred b) :=
    BI.Entails.antisymm (cred_add a b).1 (cred_add a b).2
  simp only [h]
  exact BI.Entails.refl _

/-! ## The theorem's side conditions -/

/-- What the launch gives a device is what its run starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (credits (F := F) c) $$ Hcr
  imodintro
  unfold start G'
  isplitl
  · isplitl [HG]; · iexact HG
    isplitl [Hc]; · iexact Hc
    iexact Hlev
  · iempintro

/-- With the scratch buffers it is what the pipeline asks before the point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

/-- After the point every semaphore is at zero and the scratch buffers are given back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch zeros stepZ
  iintro ⟨Hr, HzB, ⟨Z00, Z10, Z20, Z30⟩, ⟨Z01, Z11, Z21, Z31⟩, ⟨Z02, Z12, Z22, Z32⟩⟩
  isplitl [HzB]; · iexact HzB
  isplitr [Hr]
  · isplitl [Z00]; · iexact Z00
    isplitl [Z10]; · iexact Z10
    isplitl [Z20]; · iexact Z20
    isplitl [Z30]; · iexact Z30
    isplitl [Z01]; · iexact Z01
    isplitl [Z11]; · iexact Z11
    isplitl [Z21]; · iexact Z21
    isplitl [Z31]; · iexact Z31
    isplitl [Z02]; · iexact Z02
    isplitl [Z12]; · iexact Z12
    isplitl [Z22]; · iexact Z22
    iexact Z32
  iexact Hr

/-- The semaphores of the staging copies are at the lowest level. -/
theorem stage_low (w : Fin cfg0.W) (s : Fin (cfg0.win w).nbuf) (c : Dev nD) :
    lv ((c : Thread nD τ), .dma ((cfg0.win w).sem s)) () ≤ 0 := by
  unfold lv
  rw [if_neg (dma_ne_bar _)]
  have h : which (.dma ((cfg0.win w).sem s)) = none := by
    unfold which
    rw [List.find?_eq_none]
    rintro ⟨k, r⟩ -
    simp only [decide_eq_true_eq]
    revert k r
    fin_cases w <;> fin_cases s <;> decide
  rw [h]

/-- So every wait of the pipeline is allowed, whatever the device still owes. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ (dues c) 0 (stage_low w s c) (dues_above c)
    · exact mayWait c _ [] 0 (stage_low w s c) (fun p hp => by simp at hp)

/-! ## The run -/

/-- What window `w`'s array ends holding. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A whole window's one block read is the array. -/
theorem read_blk_x (f : main_arg0.ty.Contents (Elt F)) : (win0_0.blk (0 : Fin 1)).view.read (Elt F) f = f :=
  Memref.read_access_unit_zero (Elt F) main_arg0 (funext fun a => by fin_cases a <;> rfl) _ f
/-- The second argument's block is the whole array. -/
theorem read_blk_wq (f : main_arg1.ty.Contents (Elt F)) : (win0_1.blk (0 : Fin 1)).view.read (Elt F) f = f :=
  Memref.read_access_unit_zero (Elt F) main_arg1 (funext fun a => by fin_cases a <;> rfl) _ f
/-- The third argument's block is the whole array. -/
theorem read_blk_k (f : main_arg2.ty.Contents (Elt F)) : (win0_2.blk (0 : Fin 1)).view.read (Elt F) f = f :=
  Memref.read_access_unit_zero (Elt F) main_arg2 (funext fun a => by fin_cases a <;> rfl) _ f
/-- The fourth argument's block is the whole array. -/
theorem read_blk_v (f : main_arg3.ty.Contents (Elt F)) : (win0_3.blk (0 : Fin 1)).view.read (Elt F) f = f :=
  Memref.read_access_unit_zero (Elt F) main_arg3 (funext fun a => by fin_cases a <;> rfl) _ f
/-- The fifth argument's block is the whole array. -/
theorem read_blk_wo (f : main_arg4.ty.Contents (Elt F)) : (win0_4.blk (0 : Fin 1)).view.read (Elt F) f = f :=
  Memref.read_access_unit_zero (Elt F) main_arg4 (funext fun a => by fin_cases a <;> rfl) _ f
/-- The result's block is the whole array. -/
theorem read_blk_o (f : main_v1.ty.Contents (Elt F)) : (win0_5.blk (0 : Fin 1)).view.read (Elt F) f = f :=
  Memref.read_access_unit_zero (Elt F) main_v1 (funext fun a => by fin_cases a <;> rfl) _ f

/-- The output array ends at the result. -/
theorem final_out (c : Dev nD) : finalA m ρ c (5 : Fin 6) = result (argsOf m) c := by
  have h : (win0_5.blk (0 : Fin 1)).view.read (Elt F) (finalA m ρ c (5 : Fin 6)) = result (argsOf m) c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from flush0_5 _, if_pos rfl]
    exact View.read_write_univ _ _
  exact (read_blk_o (F := F) _).symm.trans h

/-- The arguments are as they were on every device. -/
def Kept (r : MemSt nD τ sig (Elt F)) : Prop := ∀ c : Dev nD,
  r.mem ((c : Thread nD τ).loc main_arg0) = m ((c : Thread nD τ).loc main_arg0)
  ∧ r.mem ((c : Thread nD τ).loc main_arg1) = m ((c : Thread nD τ).loc main_arg1)
  ∧ r.mem ((c : Thread nD τ).loc main_arg2) = m ((c : Thread nD τ).loc main_arg2)
  ∧ r.mem ((c : Thread nD τ).loc main_arg3) = m ((c : Thread nD τ).loc main_arg3)
  ∧ r.mem ((c : Thread nD τ).loc main_arg4) = m ((c : Thread nD τ).loc main_arg4)

/-- Every execution from zero counters ends; the arguments are kept, every counter is zero again, and each device's
    output is the result of the arguments. -/
theorem run_main : θ_run defs (onTc (τ := τ) (main (F := F))) ⟨m, fun _ => 0, ρ⟩ (fun r =>
    (Kept m r.2 ∧ r.2.sem = fun _ => 0) ∧ ∀ c : Dev nD, r.2.mem ((c : Thread nD τ).loc main_v1) = result (argsOf m) c) :=
  (θ_run defs _ _).mono (fun r h => ⟨⟨fun c =>
      ⟨(h.1 c (0 : Fin 6)).trans ((dats (F := F) m ρ 0 c).arrAt_in (0 : Fin 6) rfl _),
       (h.1 c (1 : Fin 6)).trans ((dats (F := F) m ρ 0 c).arrAt_in (1 : Fin 6) rfl _),
       (h.1 c (2 : Fin 6)).trans ((dats (F := F) m ρ 0 c).arrAt_in (2 : Fin 6) rfl _),
       (h.1 c (3 : Fin 6)).trans ((dats (F := F) m ρ 0 c).arrAt_in (3 : Fin 6) rfl _),
       (h.1 c (4 : Fin 6)).trans ((dats (F := F) m ρ 0 c).arrAt_in (4 : Fin 6) rfl _)⟩, h.2⟩,
      fun c => (h.1 c (5 : Fin 6)).trans (final_out m ρ c)⟩) (run_arrays m ρ)

end Cert.Tree

end
-- ==== Proof.Frames.lean ====
module
public import proofs.«01_k».proof.Proof.Launch
public import proofs.«01_k».proof.Proof.Gen.ReferenceIdeal.Run
public import proofs.«01_k».proof.Defs
public import proofs.«01_k».proof.Proof.Gen.Kernel

/-! What the runs leave alone: the kernel's, over words and over extended reals, and the reference's. -/

@[expose] public section

set_option maxRecDepth 16384

noncomputable section

namespace Cert.Tree

open Idealize.ShloMosaic Idealize.SL.Sem

/-- The program printed for words and the one printed for extended reals have the same body table. -/
theorem bodies_same : Cert.Kernel.defs₀ (F := Bits) = Cert.KernelIdeal.defs₀ (F := Bits) := by
  unfold Cert.Kernel.defs₀ Cert.KernelIdeal.defs₀
  congr 1
  funext l x
  match l, x with
  | 0, (t, s) => rfl

/-- So the two have the same definitions. -/
theorem defs_same : Cert.Kernel.defs (F := Bits) = Cert.KernelIdeal.defs (F := Bits) := by
  unfold Cert.Kernel.defs Cert.KernelIdeal.defs
  exact congrArg _ bodies_same

/-- The kernel over words ends, keeps its arguments and leaves every counter at zero. -/
theorem frame_words : Cert.quiescent_Kernel := fun m ρ _ => by
  have key : ∀ d, d = Cert.KernelIdeal.defs (F := Bits) →
      θ_run d (onTc (τ := Cert.KernelIdeal.τ) (Cert.KernelIdeal.main (F := Bits))) ⟨m, fun _ => 0, ρ⟩
        (fun r => Kept m r.2 ∧ r.2.sem = fun _ => 0) := by
    rintro _ rfl
    exact (θ_run Cert.KernelIdeal.defs _ _).mono (fun _ h => h.1) (run_main (F := Bits) m ρ)
  exact key _ defs_same

/-- The kernel over extended reals ends, keeps its arguments and leaves every counter at zero. -/
theorem frame_reals : Cert.quiescent_KernelIdeal := fun m ρ _ =>
  (θ_run Cert.KernelIdeal.defs _ _).mono (fun _ h => h.1) (run_main (F := Ideal) m ρ)

/-- The reference ends and keeps its arguments; it has no counter. -/
theorem frame_host : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Tree

end
-- ==== Proof.Softmax.lean ====
/-
# The mathematics of the merge

A partial softmax over a set of the devices' keys is a triple: a number `M`, the sum of the exponentials of the scores less
`M`, and the values weighted by those exponentials. The triple over two disjoint sets comes from the two triples by the
rule that the kernel applies in each round, and the weighted values over the sum do not depend on `M`. The scores are real
numbers; the values are any extended reals.
-/
module

public import Idealize.ShloMosaic.PureOps.Ideal

@[expose] public section

noncomputable section

namespace Cert.Tree

open Idealize.ShloMosaic

variable {K : Type} [Fintype K]

/-- The sum of the exponentials of the scores of the keys of the devices in `D`, each less `M`. -/
def expSum (r : Fin 8 → K → ℝ) (D : Finset (Fin 8)) (M : ℝ) : ℝ := ∑ c ∈ D, ∑ k, Real.exp (r c k - M)

/-- The values of those keys weighted by those exponentials. -/
def expMix (r : Fin 8 → K → ℝ) (V : Fin 8 → K → EReal) (D : Finset (Fin 8)) (M : ℝ) : EReal :=
  ∑ c ∈ D, ∑ k, ((Real.exp (r c k - M) : ℝ) : EReal) * V c k

/-- The larger of two real numbers, as extended reals. -/
theorem max_coe (a b : ℝ) : max (a : EReal) (b : EReal) = ((max a b : ℝ) : EReal) :=
  (EReal.coe_strictMono.monotone.map_max).symm

/-- A sum of real numbers, as extended reals. -/
theorem sum_coe {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A factor that is neither negative nor infinite goes into a sum. -/
theorem coe_mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- A change of what is subtracted multiplies the sum of exponentials by one factor. -/
theorem expSum_shift (r : Fin 8 → K → ℝ) (D : Finset (Fin 8)) (M M' : ℝ) :
    Real.exp (M - M') * expSum r D M = expSum r D M' := by
  unfold expSum
  rw [Finset.mul_sum]
  refine Finset.sum_congr rfl fun c _ => ?_
  rw [Finset.mul_sum]
  refine Finset.sum_congr rfl fun k _ => ?_
  rw [← Real.exp_add]
  congr 1
  ring

/-- It multiplies the weighted values by the same factor. -/
theorem expMix_shift (r : Fin 8 → K → ℝ) (V : Fin 8 → K → EReal) (D : Finset (Fin 8)) (M M' : ℝ) :
    ((Real.exp (M - M') : ℝ) : EReal) * expMix r V D M = expMix r V D M' := by
  unfold expMix
  rw [coe_mul_sum _ _ (Real.exp_pos _).le]
  refine Finset.sum_congr rfl fun c _ => ?_
  rw [coe_mul_sum _ _ (Real.exp_pos _).le]
  refine Finset.sum_congr rfl fun k _ => ?_
  rw [← mul_assoc, ← EReal.coe_mul, ← Real.exp_add]
  congr 3
  ring

/-- `m`, `s`, `c` are a partial softmax over the keys of the devices in `D`. -/
def Holds (r : Fin 8 → K → ℝ) (V : Fin 8 → K → EReal) (D : Finset (Fin 8)) (m s c : EReal) : Prop :=
  ∃ M : ℝ, m = (M : EReal) ∧ s = ((expSum r D M : ℝ) : EReal) ∧ c = expMix r V D M

/-- The factor of a merge is the exponential of the difference of two numbers. -/
theorem exp_sub_coe (M M' : ℝ) : Ideal.exp ((M : EReal) - (M' : EReal)) = ((Real.exp (M - M') : ℝ) : EReal) := by
  rw [← EReal.coe_sub, Ideal.exp_coe]

/-- Two partial results over disjoint sets merge into one over their union. -/
theorem Holds.merge {r : Fin 8 → K → ℝ} {V : Fin 8 → K → EReal} {D E : Finset (Fin 8)} {m₁ s₁ c₁ m₂ s₂ c₂ : EReal}
    (hd : Disjoint D E) (h₁ : Holds r V D m₁ s₁ c₁) (h₂ : Holds r V E m₂ s₂ c₂) :
    Holds r V (D ∪ E) (max m₁ m₂) (Ideal.exp (m₁ - max m₁ m₂) * s₁ + Ideal.exp (m₂ - max m₁ m₂) * s₂)
      (c₁ * Ideal.exp (m₁ - max m₁ m₂) + c₂ * Ideal.exp (m₂ - max m₁ m₂)) := by
  obtain ⟨M₁, rfl, rfl, rfl⟩ := h₁
  obtain ⟨M₂, rfl, rfl, rfl⟩ := h₂
  rw [max_coe]
  refine ⟨max M₁ M₂, rfl, ?_, ?_⟩
  · rw [exp_sub_coe, exp_sub_coe, ← EReal.coe_mul, ← EReal.coe_mul, expSum_shift, expSum_shift, ← EReal.coe_add]
    congr 1
    unfold expSum
    rw [Finset.sum_union hd]
  · rw [exp_sub_coe, exp_sub_coe, mul_comm, expMix_shift, mul_comm, expMix_shift]
    unfold expMix
    rw [Finset.sum_union hd]

/-- The weighted values over the sum of the weights: one number whatever `M` the triple has. -/
theorem Holds.quotient {r : Fin 8 → K → ℝ} {V : Fin 8 → K → EReal} {D : Finset (Fin 8)} {m s c : EReal}
    (hne : 0 < expSum r D 0) (h : Holds r V D m s c) :
    Ideal.div c s = ∑ i ∈ D, ∑ k, ((Real.exp (r i k) / expSum r D 0 : ℝ) : EReal) * V i k := by
  obtain ⟨M, rfl, rfl, rfl⟩ := h
  have hs : Real.exp (0 - M) * expSum r D 0 = expSum r D M := expSum_shift r D 0 M
  have hp : expSum r D M ≠ 0 := by rw [← hs]; exact (mul_pos (Real.exp_pos _) hne).ne'
  rw [Ideal.div_coe hp, mul_comm]
  unfold expMix
  have h0 : 0 ≤ 1 / expSum r D M := by rw [← hs]; exact (one_div_pos.mpr (mul_pos (Real.exp_pos _) hne)).le
  rw [coe_mul_sum _ _ h0]
  refine Finset.sum_congr rfl fun i _ => ?_
  rw [coe_mul_sum _ _ h0]
  refine Finset.sum_congr rfl fun k _ => ?_
  rw [← mul_assoc, ← EReal.coe_mul]
  congr 2
  rw [← hs, show r i k - M = r i k + (0 - M) by ring, Real.exp_add]
  have := (Real.exp_pos (0 - M)).ne'
  have := hne.ne'
  field_simp

/-- A sum of exponentials over a set that has keys is positive. -/
theorem expSum_pos (r : Fin 8 → K → ℝ) {D : Finset (Fin 8)} (hD : D.Nonempty) [Nonempty K] (M : ℝ) : 0 < expSum r D M :=
  Finset.sum_pos (fun c _ => Finset.sum_pos (fun k _ => Real.exp_pos _) Finset.univ_nonempty) hD

/-- The largest of finitely many real numbers, not none, over a start of minus infinity is real. -/
theorem fold_max_real {ι : Type} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    refine ⟨max (f a) M, ?_⟩
    rw [Finset.fold_cons, hM, max_coe]

/-- One device's triple, from the largest of its scores. -/
theorem Holds.own [Nonempty K] (r : Fin 8 → K → ℝ) (V : Fin 8 → K → EReal) (c : Fin 8) (m : EReal)
    (hm : m = Finset.univ.fold max (⊥ : EReal) (fun k => (r c k : EReal))) :
    Holds r V {c} m (∑ k, Ideal.exp ((r c k : EReal) - m)) (∑ k, Ideal.exp ((r c k : EReal) - m) * V c k) := by
  obtain ⟨M, hM⟩ := fold_max_real Finset.univ Finset.univ_nonempty (r c)
  rw [hM] at hm
  subst hm
  refine ⟨M, rfl, ?_, ?_⟩
  · unfold expSum
    rw [Finset.sum_singleton, sum_coe]
    exact Finset.sum_congr rfl fun k _ => exp_sub_coe _ _
  · unfold expMix
    rw [Finset.sum_singleton]
    exact Finset.sum_congr rfl fun k _ => by rw [exp_sub_coe]

end Cert.Tree

end
-- ==== Proof.Spec.lean ====
module

public import proofs.«01_k».proof.Proof.Softmax
public import Idealize.ShloMosaic.Lib.Pointwise

/-!
# Attention over all the keys

The number both programs compute at each place of their result, over the whole key and value arrays.
-/

@[expose] public section

noncomputable section

namespace Cert.Tree

open Idealize.ShloMosaic

/-! ## The constants both programs name -/

/-- The scale of the scores. -/
theorem ofBits_eighth : Ideal.ofBits .f32 0x3E000000#32 = ((1 / 8 : ℝ) : EReal) := by
  simp [Ideal.ofBits, Ideal.ieee, -EReal.coe_mul]; norm_num

/-- The score of a pair that does not attend. -/
theorem ofBits_masked : Ideal.ofBits .f32 0xCE6E6B28#32 = ((-1000000000 : ℝ) : EReal) := by
  simp [Ideal.ofBits, Ideal.ieee, -EReal.coe_mul, -EReal.coe_neg]; norm_num

/-- The start of a largest-of. -/
theorem ofBits_minus_infinity : Ideal.ofBits .f32 0xFF800000#32 = (⊥ : EReal) := by
  simp [Ideal.ofBits, Ideal.ieee]

/-! ## The arrays -/

/-- The activations, the query weights, all keys (and all values), and the output weights, as arrays of extended reals. -/
abbrev XArr := (⟨3, ![2, 128, 512]⟩ : Shape).Idx → EReal
abbrev WqArr := (⟨2, ![512, 256]⟩ : Shape).Idx → EReal
abbrev KvArr := (⟨4, ![2, 1024, 4, 64]⟩ : Shape).Idx → EReal
abbrev WoArr := (⟨2, ![256, 512]⟩ : Shape).Idx → EReal

/-- Column `d` of head `h` among the 256 columns of all heads. -/
def col (h : Fin 4) (d : Fin 64) : Fin 256 := ⟨64 * h.val + d.val, by omega⟩

/-- Key `j` of device `c` among all the keys. -/
def key (c : Fin 8) (j : Fin 128) : Fin 1024 := ⟨c.val * 128 + j.val, by omega⟩

/-! ## The scores -/

/-- Which keys a row attends to: those of its own block of 64, and those whose block leaves the row's block modulo four. -/
def att (i : Fin 128) (k : Nat) : Prop := k / 64 = i.val / 64 ∨ k / 64 % 4 = i.val / 64

instance (i : Fin 128) (k : Nat) : Decidable (att i k) := by unfold att; infer_instance

/-- Row `i`'s query of head `h`. -/
def query (x : XArr) (wq : WqArr) (b : Fin 2) (i : Fin 128) (h : Fin 4) (d : Fin 64) : EReal :=
  ∑ e : Fin 512, x (ix3 b i e) * wq (ix2 e (col h d))

/-- Row `i`'s score of key `k`. -/
def score (x : XArr) (wq : WqArr) (K : KvArr) (b : Fin 2) (h : Fin 4) (i : Fin 128) (k : Fin 1024) : EReal :=
  if att i k.val then (∑ d : Fin 64, query x wq b i h d * K (ix4 b k h d)) * ((1 / 8 : ℝ) : EReal)
  else ((-1000000000 : ℝ) : EReal)

/-- Every entry of the array is a real number. -/
def AllReal {ι : Type} (f : ι → EReal) : Prop := ∀ i, ∃ r : ℝ, f i = (r : EReal)

/-- A sum of products of real numbers is a real number. -/
theorem dot_real {n : Nat} (f g : Fin n → EReal) (hf : AllReal f) (hg : AllReal g) : ∃ r : ℝ, ∑ i, f i * g i = (r : EReal) := by
  choose a ha using hf
  choose b hb using hg
  refine ⟨∑ i, a i * b i, ?_⟩
  rw [sum_coe]
  refine Finset.sum_congr rfl fun i _ => ?_
  rw [ha, hb, EReal.coe_mul]

/-- With real activations, query weights and keys every score is real. -/
theorem score_real {x : XArr} {wq : WqArr} {K : KvArr} (hx : AllReal x) (hw : AllReal wq) (hK : AllReal K)
    (b : Fin 2) (h : Fin 4) (i : Fin 128) (k : Fin 1024) : ∃ r : ℝ, score x wq K b h i k = (r : EReal) := by
  unfold score
  split
  · obtain ⟨r, hr⟩ := dot_real (fun d : Fin 64 => query x wq b i h d) (fun d => K (ix4 b k h d))
      (fun d => dot_real _ _ (fun e => hx _) (fun e => hw _)) (fun d => hK _)
    exact ⟨r * (1 / 8), by rw [EReal.coe_mul, ← hr]⟩
  · exact ⟨_, rfl⟩

/-- The score as a real number, keys named by device and place. -/
def scoreR (x : XArr) (wq : WqArr) (K : KvArr) (b : Fin 2) (h : Fin 4) (i : Fin 128) (c : Fin 8) (j : Fin 128) : ℝ :=
  (score x wq K b h i (key c j)).toReal

/-- A score of real arguments is that real number. -/
theorem scoreR_coe {x : XArr} {wq : WqArr} {K : KvArr} (hx : AllReal x) (hw : AllReal wq) (hK : AllReal K)
    (b : Fin 2) (h : Fin 4) (i : Fin 128) (c : Fin 8) (j : Fin 128) :
    score x wq K b h i (key c j) = (scoreR x wq K b h i c j : EReal) := by
  obtain ⟨r, hr⟩ := score_real hx hw hK b h i (key c j)
  unfold scoreR
  rw [hr, EReal.toReal_coe]

/-! ## The context and the output -/

/-- The values of one column, keys named by device and place. -/
def value (V : KvArr) (b : Fin 2) (h : Fin 4) (d : Fin 64) (c : Fin 8) (j : Fin 128) : EReal := V (ix4 b (key c j) h d)

/-- The context: the values weighted by the softmax of the scores. -/
def context (x : XArr) (wq : WqArr) (K V : KvArr) (b : Fin 2) (h : Fin 4) (i : Fin 128) (d : Fin 64) : EReal :=
  ∑ c : Fin 8, ∑ j : Fin 128,
    ((Real.exp (scoreR x wq K b h i c j) / expSum (scoreR x wq K b h i) Finset.univ 0 : ℝ) : EReal) * value V b h d c j

/-- The output: the heads' contexts times the output weights. -/
def output (x : XArr) (wq : WqArr) (K V : KvArr) (wo : WoArr) (b : Fin 2) (i : Fin 128) (n : Fin 512) : EReal :=
  ∑ h : Fin 4, ∑ d : Fin 64, context x wq K V b h i d * wo (ix2 (col h d) n)

end Cert.Tree
-- ==== Proof.KernelValue.lean ====
module

public import proofs.«01_k».proof.Proof.Launch
public import proofs.«01_k».proof.Proof.Spec

/-!
# The kernel's result entry by entry

Each operation of the kernel's arithmetic read at one place, then each device's partial results and their merges as partial
softmaxes, and the result each device writes as the output of attention over all the keys.
-/

@[expose] public section

set_option maxRecDepth 16384

noncomputable section

namespace Cert.Tree

open Cert.KernelIdeal Cert.KernelIdeal.Gen
open Idealize.ShloMosaic

/-- The queries: activations times query weights. -/
theorem queries_at (wq : Vec Ideal S512x256 .bf16) (x : Vec Ideal S1x128x512 .bf16) (i : Fin 128) (col : Fin 256) :
    queries wq x (ix2 i col) = ∑ e : Fin 512, x (ix3 0 i e) * wq (ix2 e col) := by
  pointwise [queries]

/-- The keys' columns, heads side by side. -/
theorem rows_at (k : Vec Ideal S1x128x4x64 .bf16) (j : Fin 128) (h : Fin 4) (d : Fin 64) :
    rows k (ix2 j (col h d)) = k (ix4 0 j h d) := by
  pointwise [rows, col]

/-- A score: the scaled product of query and key where the pair attends. -/
theorem scores_at (p : IVec S128x128 1) (q k : FVec Ideal S128x256 .bf16) (h : Fin 4) (i j : Fin 128) :
    scores p q k h (ix2 i j) = if p (ix2 i j) = 1#1 then
      (∑ d : Fin 64, q (ix2 i (col h d)) * k (ix2 j (col h d))) * ((1/8 : ℝ) : EReal) else ((-1000000000 : ℝ) : EReal) := by
  pointwise [scores, col]
  rw [ofBits_eighth, ofBits_masked]
  rfl

/-- The largest score of a row. -/
theorem headMax_at (p : IVec S128x128 1) (q k : FVec Ideal S128x256 .bf16) (h : Fin 4) (i : Fin 128) :
    headMax p q k h (ix1 i) = Finset.univ.fold max (⊥ : EReal) (fun j : Fin 128 => scores p q k h (ix2 i j)) := by
  pointwise [headMax]
  rw [ofBits_minus_infinity]

/-- The exponential of a score less the largest. -/
theorem headWeights_at (p : IVec S128x128 1) (q k : FVec Ideal S128x256 .bf16) (h : Fin 4) (i j : Fin 128) :
    headWeights p q k h (ix2 i j) = Ideal.exp (scores p q k h (ix2 i j) - headMax p q k h (ix1 i)) := by
  pointwise [headWeights]

/-- A row's sum of exponentials. -/
theorem headSum_at (p : IVec S128x128 1) (q k : FVec Ideal S128x256 .bf16) (h : Fin 4) (i : Fin 128) :
    headSum p q k h (ix1 i) = ∑ j : Fin 128, headWeights p q k h (ix2 i j) := by
  pointwise [headSum]

/-- A row's unnormalised context. -/
theorem headCtx_at (p : IVec S128x128 1) (q k v : FVec Ideal S128x256 .bf16) (h : Fin 4) (i : Fin 128) (d : Fin 64) :
    headCtx p q k v h (ix2 i d) = ∑ j : Fin 128, headWeights p q k h (ix2 i j) * v (ix2 j (col h d)) := by
  pointwise [headCtx, col]

/-- The merged sum of exponentials. -/
theorem mergeSum_at (p q : Part Ideal) (b : Fin 2) (h : Fin 4) (i : Fin 128) :
    mergeSum p q (ix3 b h i) = Ideal.exp (p.mx (ix3 b h i) - max (p.mx (ix3 b h i)) (q.mx (ix3 b h i))) * p.sm (ix3 b h i)
      + Ideal.exp (q.mx (ix3 b h i) - max (p.mx (ix3 b h i)) (q.mx (ix3 b h i))) * q.sm (ix3 b h i) := by
  pointwise [mergeSum, mergeMax, factor]

/-- The merged context. -/
theorem mergeCtx_at (p q : Part Ideal) (b : Fin 2) (h : Fin 4) (i : Fin 128) (d : Fin 64) :
    mergeCtx p q (ix4 b h i d) = p.cx (ix4 b h i d) * Ideal.exp (p.mx (ix3 b h i) - max (p.mx (ix3 b h i)) (q.mx (ix3 b h i)))
      + q.cx (ix4 b h i d) * Ideal.exp (q.mx (ix3 b h i) - max (p.mx (ix3 b h i)) (q.mx (ix3 b h i))) := by
  pointwise [mergeCtx, mergeMax, factor, spread]

/-- The normalised context is the merged context divided by the merged sum. -/
theorem normal_at (p q : Part Ideal) (b : Fin 2) (h : Fin 4) (i : Fin 128) (d : Fin 64) :
    normal p q (ix4 b h i d) = Ideal.div (mergeCtx p q (ix4 b h i d)) (mergeSum p q (ix3 b h i)) := by
  pointwise [normal, spread]

/-- One head of the normalised context. -/
theorem headOf_at (o : FVec Ideal S2x4x128x64 .f32) (b : Fin 2) (h : Fin 4) (i : Fin 128) (d : Fin 64) :
    headOf o b h (ix2 i d) = o (ix4 b h i d) := by
  pointwise [headOf]

/-- The output: every head's context times the output weights. -/
theorem project_at (o : FVec Ideal S2x4x128x64 .f32) (wo : Vec Ideal S256x512 .bf16) (b : Fin 2) (i : Fin 128) (n : Fin 512) :
    project o wo b (ix2 i n) = ∑ h : Fin 4, ∑ d : Fin 64, o (ix4 b h i d) * wo (ix2 (col h d) n) := by
  pointwise [project, sumSplitAll]
  simp only [headOf_at]
  rw [Fin.sum_univ_four]
  norm_num [← add_assoc, col]

/-- Batch `b` of the activations. -/
theorem rdX_at (x : cc0_stg0_0.ty.Contents (Elt Ideal)) (b : Fin 2) (i : Fin 128) (e : Fin 512) :
    rdX x b (ix3 0 i e) = x (ix3 b i e) := by
  unfold rdX
  rw [View.readAt_apply]
  refine congrArg x (funext fun a => Fin.ext ?_)
  fin_cases a
  · show b.val + 1 * 0 = b.val; omega
  · show 0 + 1 * i.val = i.val; omega
  · show 0 + 1 * e.val = e.val; omega

/-- Batch `b` of the keys. -/
theorem rdK_at (x : cc0_stg2_0.ty.Contents (Elt Ideal)) (b : Fin 2) (j : Fin 128) (h : Fin 4)
    (d : Fin 64) : rdK x b (ix4 0 j h d) = x (ix4 b j h d) := by
  unfold rdK
  rw [View.readAt_apply]
  refine congrArg x (funext fun a => Fin.ext ?_)
  fin_cases a
  · show b.val + 1 * 0 = b.val; omega
  · show 0 + 1 * j.val = j.val; omega
  · show 0 + 1 * h.val = h.val; omega
  · show 0 + 1 * d.val = d.val; omega

/-- Batch `b` of the values. -/
theorem rdV_at (x : cc0_stg3_0.ty.Contents (Elt Ideal)) (b : Fin 2) (j : Fin 128) (h : Fin 4)
    (d : Fin 64) : rdV x b (ix4 0 j h d) = x (ix4 b j h d) := by
  unfold rdV
  rw [View.readAt_apply]
  refine congrArg x (funext fun a => Fin.ext ?_)
  fin_cases a
  · show b.val + 1 * 0 = b.val; omega
  · show 0 + 1 * j.val = j.val; omega
  · show 0 + 1 * h.val = h.val; omega
  · show 0 + 1 * d.val = d.val; omega

/-- The whole query weights. -/
theorem rdWq_eq (x : cc0_stg1_0.ty.Contents (Elt Ideal)) : rdWq x = x := by
  have hz : (![0, 0] : Fin 2 → Nat) = fun _ => 0 := by funext a; fin_cases a <;> rfl
  exact Memref.readAt_unit_zero (Elt Ideal) cc0_stg1_0 hz _ x

/-- The whole output weights. -/
theorem rdWo_eq (x : cc0_stg4_0.ty.Contents (Elt Ideal)) : rdWo x = x := by
  have hz : (![0, 0] : Fin 2 → Nat) = fun _ => 0 := by funext a; fin_cases a <;> rfl
  exact Memref.readAt_unit_zero (Elt Ideal) cc0_stg4_0 hz _ x

/-! ## Which pairs attend -/

/-- A word divided by 64, rounded down, as the kernel computes it. -/
def blockWord (w : BitVec 32) : BitVec 32 :=
  Scalar.select
    (IntOp.andi
      (IntOp.cmpi .ne
        (IntOp.subi (BitVec.setWidth 32 (IntOp.cmpi .sgt w 0#32)) (BitVec.setWidth 32 (IntOp.cmpi .slt w 0#32)))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32) (IntOp.divsi .vector w 64#32)

/-- The block test of a row's block and a key's block, as the kernel computes it. -/
def attWord (q k : BitVec 32) : BitVec 1 :=
  let m := Scalar.select (Scalar.cmpi .eq 4#32 0#32) 1#32 4#32
  let r := IntOp.remsi .vector k m
  IntOp.ori (IntOp.cmpi .eq k q)
    (IntOp.cmpi .eq
      (Scalar.select (IntOp.andi (IntOp.xori (IntOp.cmpi .slt r 0#32) (Scalar.cmpi .slt m 0#32)) (IntOp.cmpi .ne r 0#32))
        (IntOp.addi r m) r) q)

/-- The kernel's block pattern, word by word. -/
theorem pattern_words (c : Dev nD) (i j : Fin 128) : pattern (rank8 c) (ix2 i j)
    = attWord (blockWord (BitVec.ofNat 32 i.val))
        (IntOp.addi (Scalar.muli 2#32 (rank8 c)) (blockWord (BitVec.ofNat 32 j.val))) := by
  pointwise [pattern, k0_pay12, k0_pay5, k0_pay7, k0_pay6, k0_pay8, k0_pay9, k0_pay10, k0_pay11, k0_pay2, k0_pay3, k0_pay4,
    blockWord, attWord]

/-- The block of a row, or of a device's key. -/
theorem blockWord_eq : ∀ i : Fin 128, blockWord (BitVec.ofNat 32 i.val) = BitVec.ofNat 32 (i.val / 64) := by
  decide +kernel

/-- The block of a key among all the keys: two blocks a device. -/
theorem rank8_eq : ∀ c : Dev nD, ∀ t : Fin 2,
    IntOp.addi (Scalar.muli 2#32 (rank8 c)) (BitVec.ofNat 32 t.val) = BitVec.ofNat 32 (2 * c.val + t.val) := by
  decide +kernel

/-- The block test of a row's block and a key's block. -/
theorem attWord_eq : ∀ q : Fin 2, ∀ k : Fin 16, attWord (BitVec.ofNat 32 q.val) (BitVec.ofNat 32 k.val)
    = if k.val = q.val ∨ k.val % 4 = q.val then 1#1 else 0#1 := by
  decide +kernel

/-- On device `c` row `i` attends to the device's key `j` when the block test of the whole key range says so. -/
theorem pattern_at (c : Dev nD) (i j : Fin 128) :
    pattern (rank8 c) (ix2 i j) = if att i (c.val * 128 + j.val) then 1#1 else 0#1 := by
  have hc : c.val < 8 := c.isLt
  have hi := i.isLt
  have hj := j.isLt
  rw [pattern_words, blockWord_eq, blockWord_eq, rank8_eq c ⟨j.val / 64, by omega⟩,
    attWord_eq ⟨i.val / 64, by omega⟩ ⟨2 * c.val + j.val / 64, by omega⟩]
  have e : (c.val * 128 + j.val) / 64 = 2 * c.val + j.val / 64 := by omega
  refine if_congr ?_ rfl rfl
  unfold att
  rw [e]

/-! ## Partial results as partial softmaxes -/

/-- A device's own partial result at a place. -/
theorem own_mx_at (A : Args Ideal) (c : Dev nD) (b : Fin 2) (h : Fin 4) (i : Fin 128) :
    (own A c).mx (ix3 b h i) = ownMax A c b h (ix1 i) := by
  have e : part A 0 c = own A c := rfl
  rw [← e, own_mx]
/-- A device's own sums at a place. -/
theorem own_sm_at (A : Args Ideal) (c : Dev nD) (b : Fin 2) (h : Fin 4) (i : Fin 128) :
    (own A c).sm (ix3 b h i) = ownSum A c b h (ix1 i) := by
  have e : ∀ j : S2x4x128.Idx, (own A c).sm j = ownSum A c (j 0) (j 1) (ix1 (j 2)) := fun j => rfl
  exact e (ix3 b h i)
/-- A device's own context at a place. -/
theorem own_cx_at (A : Args Ideal) (c : Dev nD) (b : Fin 2) (h : Fin 4) (i : Fin 128) (d : Fin 64) :
    (own A c).cx (ix4 b h i d) = ownCtx A c b h (ix2 i d) := by
  have e : ∀ j : S2x4x128x64.Idx, (own A c).cx j = ownCtx A c (j 0) (j 1) (ix2 (j 2) (j 3)) := fun j => rfl
  exact e (ix4 b h i d)

/-- The devices' blocks of the arrays: activations and weights the same everywhere, keys and values each device's 128. -/
structure Blocks (A : Args Ideal) (x : XArr) (wq : WqArr) (K V : KvArr) (wo : WoArr) : Prop where
  x : ∀ c, A.x c = x
  wq : ∀ c, A.wq c = wq
  k : ∀ c b j h d, A.k c (ix4 b j h d) = K (ix4 b (key c j) h d)
  v : ∀ c b j h d, A.v c (ix4 b j h d) = V (ix4 b (key c j) h d)
  wo : ∀ c, A.wo c = wo

variable {A : Args Ideal} {x : XArr} {wq : WqArr} {K V : KvArr} {wo : WoArr} (hA : Blocks A x wq K V wo)
include hA

/-- A device's queries are those of the whole problem. -/
theorem qOf_at (c : Dev nD) (b : Fin 2) (i : Fin 128) (h : Fin 4) (d : Fin 64) :
    qOf A c b (ix2 i (col h d)) = query x wq b i h d := by
  unfold qOf query
  rw [queries_at, rdWq_eq, hA.wq, hA.x]
  exact Finset.sum_congr rfl fun e _ => by rw [rdX_at]

/-- A device's keys are the block of the whole keys that it holds. -/
theorem kOf_at (c : Dev nD) (b : Fin 2) (j : Fin 128) (h : Fin 4) (d : Fin 64) :
    kOf A c b (ix2 j (col h d)) = K (ix4 b (key c j) h d) := by
  unfold kOf
  rw [rows_at, rdK_at, hA.k]

/-- A device's values are the block of the whole values that it holds. -/
theorem vOf_at (c : Dev nD) (b : Fin 2) (j : Fin 128) (h : Fin 4) (d : Fin 64) :
    vOf A c b (ix2 j (col h d)) = value V b h d c j := by
  unfold vOf value
  rw [rows_at, rdV_at, hA.v]

/-- A device's scores are the scores of its keys. -/
theorem own_score (c : Dev nD) (b : Fin 2) (h : Fin 4) (i j : Fin 128) :
    scores (pattern (rank8 c)) (qOf A c b) (kOf A c b) h (ix2 i j) = score x wq K b h i (key c j) := by
  rw [scores_at, pattern_at]
  simp only [qOf_at hA, kOf_at hA]
  unfold score
  refine if_congr ?_ rfl rfl
  by_cases ha : att i (c.val * 128 + j.val)
  · simp [ha, key]
  · simp [ha, key]

variable (hx : AllReal x) (hw : AllReal wq) (hK : AllReal K)
include hx hw hK

/-- A device's own partial result is the partial softmax over its keys. -/
theorem own_holds (c : Dev nD) (b : Fin 2) (h : Fin 4) (i : Fin 128) (d : Fin 64) :
    Holds (scoreR x wq K b h i) (value V b h d) {c} ((own A c).mx (ix3 b h i)) ((own A c).sm (ix3 b h i))
      ((own A c).cx (ix4 b h i d)) := by
  have hs : ∀ j, scores (pattern (rank8 c)) (qOf A c b) (kOf A c b) h (ix2 i j) = (scoreR x wq K b h i c j : EReal) :=
    fun j => (own_score hA c b h i j).trans (scoreR_coe hx hw hK b h i c j)
  have hm : ownMax A c b h (ix1 i) = Finset.univ.fold max (⊥ : EReal) (fun j => (scoreR x wq K b h i c j : EReal)) := by
    unfold ownMax
    rw [headMax_at]
    simp only [hs]
  have hwt : ∀ j, headWeights (pattern (rank8 c)) (qOf A c b) (kOf A c b) h (ix2 i j)
      = Ideal.exp ((scoreR x wq K b h i c j : EReal) - ownMax A c b h (ix1 i)) := fun j => by
    rw [headWeights_at, hs]; rfl
  have key := Holds.own (scoreR x wq K b h i) (value V b h d) c _ hm
  have e1 : ownSum A c b h (ix1 i) = ∑ j, Ideal.exp ((scoreR x wq K b h i c j : EReal) - ownMax A c b h (ix1 i)) := by
    unfold ownSum
    rw [headSum_at]
    exact Finset.sum_congr rfl fun j _ => hwt j
  have e2 : ownCtx A c b h (ix2 i d)
      = ∑ j, Ideal.exp ((scoreR x wq K b h i c j : EReal) - ownMax A c b h (ix1 i)) * value V b h d c j := by
    unfold ownCtx
    rw [headCtx_at]
    exact Finset.sum_congr rfl fun j _ => by rw [hwt, vOf_at hA]
  rw [← e1, ← e2] at key
  rw [own_mx_at, own_sm_at, own_cx_at]
  exact key

omit hA hx hw hK in
/-- A merge of two partial softmaxes over disjoint sets of devices is the partial softmax over both. -/
theorem merge_holds {r : Fin 8 → Fin 128 → ℝ} {U : Fin 8 → Fin 128 → EReal} {D E : Finset (Fin 8)} (hd : Disjoint D E)
    {p q : Part Ideal} {b : Fin 2} {h : Fin 4} {i : Fin 128} {d : Fin 64}
    (hp : Holds r U D (p.mx (ix3 b h i)) (p.sm (ix3 b h i)) (p.cx (ix4 b h i d)))
    (hq : Holds r U E (q.mx (ix3 b h i)) (q.sm (ix3 b h i)) (q.cx (ix4 b h i d))) :
    Holds r U (D ∪ E) ((merge p q).mx (ix3 b h i)) ((merge p q).sm (ix3 b h i)) ((merge p q).cx (ix4 b h i d)) := by
  have e := Holds.merge hd hp hq
  rw [← mergeSum_at, ← mergeCtx_at] at e
  exact e

omit hA hx hw hK in
/-- The normalised context of two partial softmaxes that together cover all devices. -/
theorem normal_holds {r : Fin 8 → Fin 128 → ℝ} {U : Fin 8 → Fin 128 → EReal} {D E : Finset (Fin 8)} (hd : Disjoint D E)
    (hu : D ∪ E = Finset.univ) {p q : Part Ideal} {b : Fin 2} {h : Fin 4} {i : Fin 128} {d : Fin 64}
    (hp : Holds r U D (p.mx (ix3 b h i)) (p.sm (ix3 b h i)) (p.cx (ix4 b h i d)))
    (hq : Holds r U E (q.mx (ix3 b h i)) (q.sm (ix3 b h i)) (q.cx (ix4 b h i d))) :
    normal p q (ix4 b h i d)
      = ∑ c : Fin 8, ∑ j : Fin 128, ((Real.exp (r c j) / expSum r Finset.univ 0 : ℝ) : EReal) * U c j := by
  have e := Holds.merge hd hp hq
  rw [← mergeSum_at, ← mergeCtx_at, hu] at e
  rw [normal_at]
  exact e.quotient (expSum_pos _ Finset.univ_nonempty 0)

/-- The devices whose keys a partial result covers after one round, and after two. -/
def pair (c : Dev nD) : Finset (Fin 8) := {c} ∪ {peer 0 c}
def quad (c : Dev nD) : Finset (Fin 8) := pair c ∪ pair (peer 1 c)

omit hA hx hw hK in
/-- After one round, a device's pair and that of its next partner share no device. -/
theorem pair_disjoint : ∀ c : Dev nD, Disjoint (pair c) (pair (peer 1 c)) := by decide +kernel
omit hA hx hw hK in
/-- A device and its first partner are two. -/
theorem own_disjoint : ∀ c : Dev nD, Disjoint ({c} : Finset (Fin 8)) {peer 0 c} := by decide +kernel
omit hA hx hw hK in
/-- After two rounds, a device's four and those of its last partner share no device. -/
theorem quad_disjoint : ∀ c : Dev nD, Disjoint (quad c) (quad (peer 2 c)) := by decide +kernel
omit hA hx hw hK in
/-- Those two fours are all eight devices. -/
theorem quad_all : ∀ c : Dev nD, quad c ∪ quad (peer 2 c) = Finset.univ := by decide +kernel

/-- After one round a device holds the partial softmax over the keys of two devices, and after two over those of four. -/
theorem part1_holds (c : Dev nD) (b : Fin 2) (h : Fin 4) (i : Fin 128) (d : Fin 64) :
    Holds (scoreR x wq K b h i) (value V b h d) (pair c) ((part1 A c).mx (ix3 b h i)) ((part1 A c).sm (ix3 b h i))
      ((part1 A c).cx (ix4 b h i d)) :=
  merge_holds (own_disjoint c) (own_holds hA hx hw hK c b h i d) (own_holds hA hx hw hK (peer 0 c) b h i d)

/-- After two rounds a device holds the partial softmax of its four devices. -/
theorem part2_holds (c : Dev nD) (b : Fin 2) (h : Fin 4) (i : Fin 128) (d : Fin 64) :
    Holds (scoreR x wq K b h i) (value V b h d) (quad c) ((part2 A c).mx (ix3 b h i)) ((part2 A c).sm (ix3 b h i))
      ((part2 A c).cx (ix4 b h i d)) :=
  merge_holds (pair_disjoint c) (part1_holds hA hx hw hK c b h i d) (part1_holds hA hx hw hK (peer 1 c) b h i d)

/-- The normalised context every device ends with is the context over all the keys. -/
theorem final_at (c : Dev nD) (b : Fin 2) (h : Fin 4) (i : Fin 128) (d : Fin 64) :
    final A c (ix4 b h i d) = context x wq K V b h i d := by
  unfold final context
  exact normal_holds (quad_disjoint c) (quad_all c) (part2_holds hA hx hw hK c b h i d)
    (part2_holds hA hx hw hK (peer 2 c) b h i d)

/-- Every device writes the output of attention over all the keys. -/
theorem result_at (c : Dev nD) (b : Fin 2) (i : Fin 128) (n : Fin 512) :
    result A c (ix3 b i n) = output x wq K V wo b i n := by
  show project (final A c) (rdWo (A.wo c)) b (ix2 i n) = _
  rw [project_at, rdWo_eq, hA.wo]
  unfold output
  exact Finset.sum_congr rfl fun h _ => Finset.sum_congr rfl fun d _ => by rw [final_at hA hx hw hK]

end Cert.Tree
-- ==== Proof.RefValue.lean ====
module

public import proofs.«01_k».proof.Proof.Gen.ReferenceIdeal.Run
public import proofs.«01_k».proof.Proof.Spec

/-!
# The reference's result entry by entry

The reference's composed term cut into named stages, each stage read at one place, and the result as the output of attention
over all the keys.
-/

@[expose] public section

set_option maxRecDepth 16384

noncomputable section

namespace Cert.Tree.Ref

open Cert.ReferenceIdeal Cert.ReferenceIdeal.Gen
open Idealize.ShloMosaic
open Idealize.ShloMosaic.TcCoe

/-! ## The stages -/

/-- Each row's block of 64, and each key's. -/
def rowBlocks : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))
def keyBlocks : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

/-- The same as a column, and as a row. -/
def rowCol : IVec S128x1 32 := broadcastInDim S128x1 ![0] bcast_S128_S128x1_0 rowBlocks
def keyRow : IVec S1x1024 32 := broadcastInDim S1x1024 ![1] bcast_S1024_S1x1024_1 keyBlocks

/-- The modulus. -/
def four : IVec S_ 32 :=
  select (cmpi .eq (id (constantI S_ 32 4#32)) (constantI S_ 32 0#32)) (constantI S_ 32 1#32) (id (constantI S_ 32 4#32))

/-- The blocks modulo four. -/
def keyMod : IVec S1x1024 32 :=
  select (andi (cmpi .ne (cmpi .slt (Host.remsi keyRow (broadcastInDim S1x1024 ![] bcast_S_S1x1024 four))
        (broadcastInDim S1x1024 ![] bcast_S_S1x1024 (constantI S_ 32 0#32)))
      (broadcastInDim S1x1024 ![] bcast_S_S1x1024 (cmpi .slt four (constantI S_ 32 0#32))))
      (cmpi .ne (Host.remsi keyRow (broadcastInDim S1x1024 ![] bcast_S_S1x1024 four))
        (broadcastInDim S1x1024 ![] bcast_S_S1x1024 (constantI S_ 32 0#32))))
    (addi (Host.remsi keyRow (broadcastInDim S1x1024 ![] bcast_S_S1x1024 four)) (broadcastInDim S1x1024 ![] bcast_S_S1x1024 four))
    (Host.remsi keyRow (broadcastInDim S1x1024 ![] bcast_S_S1x1024 four))
def rowMod : IVec S128x1 32 :=
  select (andi (cmpi .ne (cmpi .slt (Host.remsi rowCol (broadcastInDim S128x1 ![] bcast_S_S128x1 four))
        (broadcastInDim S128x1 ![] bcast_S_S128x1 (constantI S_ 32 0#32)))
      (broadcastInDim S128x1 ![] bcast_S_S128x1 (cmpi .slt four (constantI S_ 32 0#32))))
      (cmpi .ne (Host.remsi rowCol (broadcastInDim S128x1 ![] bcast_S_S128x1 four))
        (broadcastInDim S128x1 ![] bcast_S_S128x1 (constantI S_ 32 0#32))))
    (addi (Host.remsi rowCol (broadcastInDim S128x1 ![] bcast_S_S128x1 four)) (broadcastInDim S128x1 ![] bcast_S_S128x1 four))
    (Host.remsi rowCol (broadcastInDim S128x1 ![] bcast_S_S128x1 four))

/-- Which pairs attend, and which rows attend to anything. -/
def mask : IVec S128x1024 1 :=
  ori (cmpi .eq (broadcastInDim S128x1024 ![0, 1] bcast_S128x1_S128x1024_0_1 rowCol)
      (broadcastInDim S128x1024 ![0, 1] bcast_S1x1024_S128x1024_0_1 keyRow))
    (cmpi .eq (broadcastInDim S128x1024 ![0, 1] bcast_S1x1024_S128x1024_0_1 keyMod)
      (broadcastInDim S128x1024 ![0, 1] bcast_S128x1_S128x1024_0_1 rowMod))
def anyMask : IVec S128 1 := Host.reduce IntOp.ori mask (constantI S_ 1 0#1) reducesTo_S128x1024_S128_d1 h_S_

/-- The scores. -/
def scores (x : FVec Ideal S2x128x512 .bf16) (wq : FVec Ideal S512x256 .bf16) (k : FVec Ideal S2x1024x4x64 .bf16) :
    FVec Ideal S2x4x128x1024 .f32 :=
  select (broadcastInDim S2x4x128x1024 ![0, 1, 2, 3] bcast_S1x1x128x1024_S2x4x128x1024_0_1_2_3
      (broadcastInDim S1x1x128x1024 ![2, 3] bcast_S128x1024_S1x1x128x1024_2_3 mask))
    (mulf (Host.dotGeneral dot_S2x128x4x64_S2x1024x4x64_S2x4x128x1024_3_3_1_1_02_02 none
        (shapeCast _ (Host.dotGeneral dot_S2x128x512_S512x256_S2x128x256_2_0_01_1_n_n none (extf .f32 x bitsLt_bf16_f32)
          (extf .f32 wq bitsLt_bf16_f32)) shapeCasts_S2x128x256_S2x128x4x64) (extf .f32 k bitsLt_bf16_f32))
      (broadcastInDim S2x4x128x1024 ![] bcast_S_S2x4x128x1024 (constant S_ .f32 0x3E000000#32)))
    (broadcastInDim S2x4x128x1024 ![] bcast_S_S2x4x128x1024 (id (constant S_ .f32 0xCE6E6B28#32)))

/-- The largest scores, the exponentials, their sums and the weights, of any scores. -/
def maxima (s : FVec Ideal S2x4x128x1024 .f32) : FVec Ideal S2x4x128 .f32 :=
  Host.reduce FloatOps.maximumf s (constant S_ .f32 0xFF800000#32) reducesTo_S2x4x128x1024_S2x4x128_d3 h_S_
def exps (s : FVec Ideal S2x4x128x1024 .f32) : FVec Ideal S2x4x128x1024 .f32 :=
  Host.exp (subf s (broadcastInDim S2x4x128x1024 ![0, 1, 2, 3] bcast_S2x4x128x1_S2x4x128x1024_0_1_2_3
    (broadcastInDim S2x4x128x1 ![0, 1, 2] bcast_S2x4x128_S2x4x128x1_0_1_2 (maxima s))))
def sums (e : FVec Ideal S2x4x128x1024 .f32) : FVec Ideal S2x4x128 .f32 :=
  Host.reduceAdd e (constant S_ .f32 0x00000000#32) reducesTo_S2x4x128x1024_S2x4x128_d3 h_S_
def weights (e : FVec Ideal S2x4x128x1024 .f32) : FVec Ideal S2x4x128x1024 .f32 :=
  Host.divf e (broadcastInDim S2x4x128x1024 ![0, 1, 2, 3] bcast_S2x4x128x1_S2x4x128x1024_0_1_2_3
    (select (broadcastInDim S2x4x128x1 ![0, 1, 2, 3] bcast_S1x1x128x1_S2x4x128x1_0_1_2_3
        (broadcastInDim S1x1x128x1 ![2] bcast_S128_S1x1x128x1_2 anyMask))
      (broadcastInDim S2x4x128x1 ![0, 1, 2] bcast_S2x4x128_S2x4x128x1_0_1_2 (sums e))
      (broadcastInDim S2x4x128x1 ![] bcast_S_S2x4x128x1 (id (constant S_ .f32 0x3F800000#32)))))

/-- The context of any weights, the heads side by side, and the output of any context. -/
def contexts (w : FVec Ideal S2x4x128x1024 .f32) (v : FVec Ideal S2x1024x4x64 .bf16) : FVec Ideal S2x128x256 .f32 :=
  shapeCast _ (transpose S2x128x4x64 [0, 3, 1, 2]
    (Host.dotGeneral dot_S2x1024x4x64_S2x4x128x1024_S2x4x64x128_1_3_3_2_02_01 none (extf .f32 v bitsLt_bf16_f32)
      (select (broadcastInDim S2x4x128x1024 ![0, 1, 2, 3] bcast_S1x1x128x1_S2x4x128x1024_0_1_2_3
          (broadcastInDim S1x1x128x1 ![2] bcast_S128_S1x1x128x1_2 anyMask)) w
        (broadcastInDim S2x4x128x1024 ![] bcast_S_S2x4x128x1024 (id (constant S_ .f32 0x00000000#32)))))
    transposes_S2x4x64x128_S2x128x4x64_0_3_1_2) shapeCasts_S2x128x4x64_S2x128x256
def outputs (o : FVec Ideal S2x128x256 .f32) (wo : FVec Ideal S256x512 .bf16) : FVec Ideal S2x128x512 .f32 :=
  Host.dotGeneral dot_S2x128x256_S256x512_S2x128x512_2_0_01_1_n_n none o (extf .f32 wo bitsLt_bf16_f32)

/-- The reference's result in its stages. -/
theorem result_eq (m : (ℓ : Loc nD τ sig) → Buf (Elt Ideal) ℓ) (c : Dev nD) :
    Cert.ReferenceIdeal.Value.res_main_v44 m c
      = outputs (contexts (weights (exps (scores (m ((c.tc : Thread nD τ).loc main_arg0)) (m ((c.tc : Thread nD τ).loc main_arg1))
          (m ((c.tc : Thread nD τ).loc main_arg2))))) (m ((c.tc : Thread nD τ).loc main_arg3))) (m ((c.tc : Thread nD τ).loc main_arg4)) := by
  unfold Cert.ReferenceIdeal.Value.res_main_v44
  rfl

/-! ## Which pairs attend -/

/-- The block of a row. -/
theorem rowBlocks_at : ∀ i : Fin 128, rowBlocks (ix1 i) = BitVec.ofNat 32 (i.val / 64) := by decide +kernel
/-- The block of a key. -/
theorem keyBlocks_at : ∀ k : Fin 1024, keyBlocks (ix1 k) = BitVec.ofNat 32 (k.val / 64) := by decide +kernel

/-- A word modulo four, as the reference computes it. -/
def modWord (w : BitVec 32) : BitVec 32 :=
  let f := Scalar.select (IntOp.cmpi .eq 4#32 0#32) 1#32 4#32
  Scalar.select (IntOp.andi (IntOp.cmpi .ne (IntOp.cmpi .slt (IntOp.remsi .host w f) 0#32) (IntOp.cmpi .slt f 0#32))
      (IntOp.cmpi .ne (IntOp.remsi .host w f) 0#32))
    (IntOp.addi (IntOp.remsi .host w f) f) (IntOp.remsi .host w f)

/-- The block test of a row's block and a key's block, as the reference computes it. -/
def maskWord (q k : BitVec 32) : BitVec 1 := IntOp.ori (IntOp.cmpi .eq q k) (IntOp.cmpi .eq (modWord k) (modWord q))

/-- The mask at a place is the block test of its row's and its key's block. -/
theorem mask_words (i : Fin 128) (k : Fin 1024) : mask (ix2 i k) = maskWord (rowBlocks (ix1 i)) (keyBlocks (ix1 k)) := by
  pointwise [mask, rowMod, keyMod, four, rowCol, keyRow, id, maskWord, modWord]

/-- The block test: the same block, or a key block that is the row's modulo four. -/
theorem maskWord_eq : ∀ q : Fin 2, ∀ k : Fin 16, maskWord (BitVec.ofNat 32 q.val) (BitVec.ofNat 32 k.val)
    = if k.val = q.val ∨ k.val % 4 = q.val then 1#1 else 0#1 := by
  decide +kernel

/-- Row `i` attends to key `k` when the block test says so. -/
theorem mask_at (i : Fin 128) (k : Fin 1024) : mask (ix2 i k) = if att i k.val then 1#1 else 0#1 := by
  have hi := i.isLt
  have hk := k.isLt
  rw [mask_words, rowBlocks_at, keyBlocks_at, maskWord_eq ⟨i.val / 64, by omega⟩ ⟨k.val / 64, by omega⟩]
  exact if_congr Iff.rfl rfl rfl

/-- One true entry makes an or true. -/
theorem fold_or_one {ι : Type} (s : Finset ι) (f : ι → BitVec 1) (k : ι) (hk : k ∈ s) (h : f k = 1#1) :
    s.fold IntOp.ori 0#1 f = 1#1 := by
  classical
  rw [← Finset.insert_erase hk, Finset.fold_insert (Finset.notMem_erase _ _), h]
  generalize (s.erase k).fold IntOp.ori 0#1 f = w
  revert w
  decide

/-- Every row attends to something: to the key of its own number. -/
theorem anyMask_at (i : Fin 128) : anyMask (ix1 i) = 1#1 := by
  pointwise [anyMask]
  refine fold_or_one _ _ ⟨i.val, by omega⟩ (Finset.mem_univ _) ?_
  rw [mask_at]
  exact if_pos (Or.inl rfl)

/-! ## Each stage at a place -/

/-- The scores. -/
theorem scores_at (x : FVec Ideal S2x128x512 .bf16) (wq : FVec Ideal S512x256 .bf16) (k : FVec Ideal S2x1024x4x64 .bf16)
    (b : Fin 2) (h : Fin 4) (i : Fin 128) (j : Fin 1024) : scores x wq k (ix4 b h i j) = score x wq k b h i j := by
  have hc : ∀ d : Fin 64, (⟨h.val * 64 + d.val, by omega⟩ : Fin 256) = col h d := fun d => Fin.ext (by simp [col, mul_comm])
  pointwise [scores, id]
  rw [ofBits_eighth, ofBits_masked, mask_at]
  simp only [hc]
  unfold score query Scalar.select
  by_cases ha : att i j.val
  · simp [ha]
  · simp [ha]

/-- The largest score of a row. -/
theorem maxima_at (s : FVec Ideal S2x4x128x1024 .f32) (b : Fin 2) (h : Fin 4) (i : Fin 128) :
    maxima s (ix3 b h i) = Finset.univ.fold max (⊥ : EReal) (fun j : Fin 1024 => s (ix4 b h i j)) := by
  pointwise [maxima]
  rw [ofBits_minus_infinity]

/-- The exponential of a score less the largest. -/
theorem exps_at (s : FVec Ideal S2x4x128x1024 .f32) (b : Fin 2) (h : Fin 4) (i : Fin 128) (j : Fin 1024) :
    exps s (ix4 b h i j) = Ideal.exp (s (ix4 b h i j) - maxima s (ix3 b h i)) := by
  pointwise [exps]

/-- A weight: an exponential over the row's sum. -/
theorem weights_at (e : FVec Ideal S2x4x128x1024 .f32) (b : Fin 2) (h : Fin 4) (i : Fin 128) (j : Fin 1024) :
    weights e (ix4 b h i j) = Ideal.div (e (ix4 b h i j)) (∑ j : Fin 1024, e (ix4 b h i j)) := by
  pointwise [weights, sums]
  rw [anyMask_at]
  rfl

/-- The context of a row: values times weights. -/
theorem contexts_at (w : FVec Ideal S2x4x128x1024 .f32) (v : FVec Ideal S2x1024x4x64 .bf16) (b : Fin 2) (i : Fin 128)
    (h : Fin 4) (d : Fin 64) : contexts w v (ix3 b i (col h d)) = ∑ j : Fin 1024, v (ix4 b j h d) * w (ix4 b h i j) := by
  pointwise [contexts, col]
  rw [anyMask_at]
  rfl

/-- The output: contexts times output weights. -/
theorem outputs_at (o : FVec Ideal S2x128x256 .f32) (wo : FVec Ideal S256x512 .bf16) (b : Fin 2) (i : Fin 128) (n : Fin 512) :
    outputs o wo (ix3 b i n) = ∑ h : Fin 4, ∑ d : Fin 64, o (ix3 b i (col h d)) * wo (ix2 (col h d) n) := by
  have hc : ∀ (h : Fin 4) (d : Fin 64), (⟨h.val * 64 + d.val, by omega⟩ : Fin 256) = col h d :=
    fun h d => Fin.ext (by simp [col, mul_comm])
  pointwise [outputs]
  rw [Fin.sum_univ_tiles 4 64 rfl]
  simp only [hc]

/-! ## The result -/

variable {x : XArr} {wq : WqArr} {K V : KvArr} {wo : WoArr} (hx : AllReal x) (hw : AllReal wq) (hK : AllReal K)
include hx hw hK

/-- The context of the reference is the context over all the keys. -/
theorem context_at (b : Fin 2) (h : Fin 4) (i : Fin 128) (d : Fin 64) :
    ∑ j : Fin 1024, V (ix4 b j h d) * weights (exps (scores x wq K)) (ix4 b h i j) = context x wq K V b h i d := by
  have hs : ∀ c j, scores x wq K (ix4 b h i (key c j)) = (scoreR x wq K b h i c j : EReal) :=
    fun c j => (scores_at x wq K b h i (key c j)).trans (scoreR_coe hx hw hK b h i c j)
  obtain ⟨M, hM⟩ : ∃ M : ℝ, maxima (scores x wq K) (ix3 b h i) = (M : EReal) := by
    obtain ⟨M, hM⟩ := fold_max_real Finset.univ Finset.univ_nonempty
      (fun j : Fin 1024 => (score x wq K b h i j).toReal)
    refine ⟨M, ?_⟩
    rw [maxima_at, ← hM]
    congr 1
    funext j
    obtain ⟨r, hr⟩ := score_real hx hw hK b h i j
    rw [scores_at, hr, EReal.toReal_coe]
  have he : ∀ c j, exps (scores x wq K) (ix4 b h i (key c j)) = ((Real.exp (scoreR x wq K b h i c j - M) : ℝ) : EReal) :=
    fun c j => by rw [exps_at, hs, hM, exp_sub_coe]
  have hsum : ∑ j : Fin 1024, exps (scores x wq K) (ix4 b h i j)
      = ((expSum (scoreR x wq K b h i) Finset.univ M : ℝ) : EReal) := by
    rw [Fin.sum_univ_tiles 8 128 rfl]
    unfold expSum
    rw [sum_coe]
    refine Finset.sum_congr rfl fun c _ => ?_
    rw [sum_coe]
    exact Finset.sum_congr rfl fun j _ => he c j
  have hpos : 0 < expSum (scoreR x wq K b h i) Finset.univ M := expSum_pos _ Finset.univ_nonempty M
  have hpos0 : 0 < expSum (scoreR x wq K b h i) Finset.univ 0 := expSum_pos _ Finset.univ_nonempty 0
  rw [Fin.sum_univ_tiles 8 128 rfl]
  unfold context
  refine Finset.sum_congr rfl fun c _ => Finset.sum_congr rfl fun j _ => ?_
  show V (ix4 b (key c j) h d) * weights (exps (scores x wq K)) (ix4 b h i (key c j)) = _
  rw [weights_at, hsum, he, Ideal.div_coe hpos.ne', ← EReal.coe_mul, mul_comm]
  unfold value
  refine congrArg (fun w : ℝ => (w : EReal) * V (ix4 b (key c j) h d)) ?_
  rw [← expSum_shift (scoreR x wq K b h i) Finset.univ 0 M, Real.exp_sub, zero_sub, Real.exp_neg]
  field_simp

/-- The reference's result is the output of attention over all the keys. -/
theorem output_at (b : Fin 2) (i : Fin 128) (n : Fin 512) :
    outputs (contexts (weights (exps (scores x wq K))) V) wo (ix3 b i n) = output x wq K V wo b i n := by
  rw [outputs_at]
  unfold output
  exact Finset.sum_congr rfl fun h _ => Finset.sum_congr rfl fun d _ => by rw [contexts_at, context_at hx hw hK]

end Cert.Tree.Ref
-- ==== Proof.Inputs.lean ====
module

public import proofs.«01_k».proof.Defs
public import proofs.«01_k».proof.Proof.Spec
public import Idealize.ShloMosaic.Lib.ReduceAll

/-!
# What the precondition says

The precondition compares every activation, query weight and key with the two infinities. Where it holds, all of them are real
numbers.
-/

@[expose] public section

noncomputable section

namespace Cert.Tree

open Idealize.ShloMosaic

/-- The side conditions of the precondition's operations. -/
instance facts_kernel : Cert.Pre_finite_scores_KernelIdeal.Facts where
  bitsLt_bf16_f32 := by decide
  bcast_S_S2x128x512 := by decide
  reducesTo_S2x128x512_S_d0_1_2 := by decide
  h_S_ := by decide
  bcast_S_S512x256 := by decide
  reducesTo_S512x256_S_d0_1 := by decide
  bcast_S_S2x128x4x64 := by decide
  reducesTo_S2x128x4x64_S_d0_1_2_3 := by decide

instance facts_reference : Cert.Pre_finite_scores_ReferenceIdeal.Facts where
  bitsLt_bf16_f32 := by decide
  bcast_S_S2x128x512 := by decide
  reducesTo_S2x128x512_S_d0_1_2 := by decide
  h_S_ := by decide
  bcast_S_S512x256 := by decide
  reducesTo_S512x256_S_d0_1 := by decide
  bcast_S_S2x1024x4x64 := by decide
  reducesTo_S2x1024x4x64_S_d0_1_2_3 := by decide

/-- Plus infinity as a word. -/
theorem ofBits_plus_infinity : Ideal.ofBits .f32 0x7F800000#32 = (⊤ : EReal) := by
  simp [Ideal.ofBits, Ideal.ieee]

/-- A number above minus infinity and below plus infinity is real. -/
theorem real_of_between (a : EReal) (h : IntOp.andi (Ideal.cmp .ogt a ⊥) (Ideal.cmp .olt a ⊤) = 1#1) :
    ∃ r : ℝ, a = (r : EReal) := by
  induction a with
  | bot => exact absurd h (by simp [Ideal.cmp, IntOp.andi])
  | top => exact absurd h (by simp [Ideal.cmp, IntOp.andi])
  | coe r => exact ⟨r, rfl⟩

/-- A conjunction of two bits is one only when both are. -/
theorem both_one : ∀ a b : BitVec 1, IntOp.andi a b = 1#1 → a = 1#1 ∧ b = 1#1 := by decide

open Cert.Pre_finite_scores_KernelIdeal in
/-- Where the precondition's value is one, the activations, query weights and keys are real. -/
theorem real_of_pre (x : FVec Ideal S2x128x512 .bf16) (wq : FVec Ideal S512x256 .bf16) (k v : FVec Ideal S2x128x4x64 .bf16)
    (wo : FVec Ideal S256x512 .bf16) (h : fn (F := Ideal) x wq k v wo = fun _ => 1#1) :
    AllReal x ∧ AllReal wq ∧ AllReal k := by
  have h0 := congrFun h ix0
  unfold fn fn_part1 at h0
  dsimp only at h0
  obtain ⟨h12, h3⟩ := both_one _ _ h0
  obtain ⟨h1, h2⟩ := both_one _ _ h12
  haveI : Subsingleton S_.Idx := ⟨fun a b => funext fun i => i.elim0⟩
  refine ⟨fun i => ?_, fun i => ?_, fun i => ?_⟩
  · have e := Host.reduce_andi_all _ _ _ _ _ h1 i
    refine real_of_between _ ?_
    rw [← ofBits_minus_infinity, ← ofBits_plus_infinity]
    exact e
  · have e := Host.reduce_andi_all _ _ _ _ _ h2 i
    refine real_of_between _ ?_
    rw [← ofBits_minus_infinity, ← ofBits_plus_infinity]
    exact e
  · have e := Host.reduce_andi_all _ _ _ _ _ h3 i
    refine real_of_between _ ?_
    rw [← ofBits_minus_infinity, ← ofBits_plus_infinity]
    exact e

end Cert.Tree

end
-- ==== Proof.Value.lean ====
module

public import proofs.«01_k».proof.Proof.KernelValue
public import proofs.«01_k».proof.Proof.RefValue
public import proofs.«01_k».proof.Proof.Inputs

/-!
# The value claim

From arguments the devices share with the reference, keys and values cut into eight blocks, the kernel's result on every device
is the reference's.
-/

@[expose] public section

set_option maxRecDepth 16384

noncomputable section

namespace Cert.Tree

open Idealize.ShloMosaic Idealize.SL.Sem

/-- A block of an array of keys or values at a place. -/
theorem block_at (f : KvArr) (c : Fin 8) (b : Fin 2) (j : Fin 128) (h : Fin 4) (d : Fin 64) :
    (Layout.block ⟨4, ![2, 128, 4, 64]⟩ ⟨4, ![2, 1024, 4, 64]⟩ 1 8 c f) (ix4 b j h d) = f (ix4 b (key c j) h d) := by
  rw [Layout.block_apply]
  refine congrArg f (funext fun a => Fin.ext ?_)
  rw [Layout.Tiles.idx_val]
  fin_cases a <;> rfl

/-- An array every block of which is real is real. -/
theorem real_of_blocks (f : KvArr)
    (h : ∀ c : Fin 8, AllReal (Layout.block ⟨4, ![2, 128, 4, 64]⟩ ⟨4, ![2, 1024, 4, 64]⟩ 1 8 c f)) : AllReal f := by
  intro i
  have hk : (i 1).val < 1024 := (i 1).isLt
  obtain ⟨r, hr⟩ := h ⟨(i 1).val / 128, by omega⟩ (ix4 (i 0) ⟨(i 1).val % 128, by omega⟩ (i 2) (i 3))
  refine ⟨r, Eq.trans ?_ hr⟩
  refine Eq.trans (congrArg f ?_) (block_at f _ _ _ _ _).symm
  funext a
  fin_cases a
  · rfl
  · exact Fin.ext (by show (i 1).val = (i 1).val / 128 * 128 + (i 1).val % 128; omega)
  · rfl
  · rfl

/-- The value claim: the same result on every device and of the reference. -/
theorem value_reals : Cert.algebraic_KernelIdeal_ReferenceIdeal_pre_finite_scores_KernelIdeal := by
  intro m g m' g' hpre hargs
  have h0 := fun c => (hargs c).1
  have h1 := fun c => (hargs c).2.1
  have h2 := fun c => (hargs c).2.2.1
  have h3 := fun c => (hargs c).2.2.2.1
  have h4 := fun c => (hargs c).2.2.2.2
  have hr := fun c => real_of_pre _ _ _ _ _ (hpre c)
  generalize hx : m' (((0 : Dev Cert.ReferenceIdeal.nD).tc : Thread Cert.ReferenceIdeal.nD Cert.ReferenceIdeal.τ).loc Cert.ReferenceIdeal.main_arg0) = x at h0
  generalize hwq : m' (((0 : Dev Cert.ReferenceIdeal.nD).tc : Thread Cert.ReferenceIdeal.nD Cert.ReferenceIdeal.τ).loc Cert.ReferenceIdeal.main_arg1) = wq at h1
  generalize hK : m' (((0 : Dev Cert.ReferenceIdeal.nD).tc : Thread Cert.ReferenceIdeal.nD Cert.ReferenceIdeal.τ).loc Cert.ReferenceIdeal.main_arg2) = K at h2
  generalize hV : m' (((0 : Dev Cert.ReferenceIdeal.nD).tc : Thread Cert.ReferenceIdeal.nD Cert.ReferenceIdeal.τ).loc Cert.ReferenceIdeal.main_arg3) = V at h3
  generalize hwo : m' (((0 : Dev Cert.ReferenceIdeal.nD).tc : Thread Cert.ReferenceIdeal.nD Cert.ReferenceIdeal.τ).loc Cert.ReferenceIdeal.main_arg4) = wo at h4
  have hA : Blocks (argsOf m) x wq K V wo :=
    { x := fun c => (read_blk_x (F := Ideal) _).trans (h0 c)
      wq := fun c => (read_blk_wq (F := Ideal) _).trans (h1 c)
      k := fun c b j h d => (congrFun ((read_blk_k (F := Ideal) _).trans (h2 c)) (ix4 b j h d)).trans (block_at K c b j h d)
      v := fun c b j h d => (congrFun ((read_blk_v (F := Ideal) _).trans (h3 c)) (ix4 b j h d)).trans (block_at V c b j h d)
      wo := fun c => (read_blk_wo (F := Ideal) _).trans (h4 c) }
  have rx : AllReal x := by have e := (hr 0).1; rw [h0 0] at e; exact e
  have rw' : AllReal wq := by have e := (hr 0).2.1; rw [h1 0] at e; exact e
  have rK : AllReal K := real_of_blocks K fun c => by have e := (hr c).2.2; rw [h2 c] at e; exact e
  have kernel : ∀ c, result (argsOf m) c = fun i => output x wq K V wo (i 0) (i 1) (i 2) := fun c => by
    funext i
    obtain ⟨b, r, n, rfl⟩ : ∃ b r n, i = ix3 b r n := ⟨i 0, i 1, i 2, by funext a; fin_cases a <;> rfl⟩
    exact result_at hA rx rw' rK c b r n
  have reference : Cert.ReferenceIdeal.Value.res_main_v44 m' 0 = fun i => output x wq K V wo (i 0) (i 1) (i 2) := by
    rw [Ref.result_eq, hx, hwq, hK, hV, hwo]
    funext i
    obtain ⟨b, r, n, rfl⟩ : ∃ b r n, i = ix3 b r n := ⟨i 0, i 1, i 2, by funext a; fin_cases a <;> rfl⟩
    exact Ref.output_at rx rw' rK b r n
  subst hx hwq hK hV hwo
  refine ⟨Cert.ReferenceIdeal.Value.res_main_v44 m' 0, ?_, ?_⟩
  · exact (θ_run Cert.KernelIdeal.defs _ _).mono
      (fun r h c => ⟨(h.2 c).trans ((kernel c).trans reference.symm), h.1.1 c⟩) (run_main (F := Ideal) m g)
  · exact (θ_run Cert.ReferenceIdeal.defs _ _).mono (fun r h => h 0) (Cert.ReferenceIdeal.Value.run (F := Ideal) m' g')

end Cert.Tree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The three frames, that the ideal program is the kernel, and that kernel and reference compute the same over the extended
    reals. -/
theorem claim : Cert.Claim :=
  ⟨Cert.Kernel.Gen.facts, Cert.KernelIdeal.Gen.facts, Cert.ReferenceIdeal.Gen.facts, Cert.Tree.facts_kernel, Cert.Tree.facts_reference,
    Cert.Tree.frame_words, Cert.Tree.frame_reals, fun m g _ => Cert.Tree.frame_reals m g trivial,
    Cert.Tree.frame_host, fun m g _ => Cert.Tree.frame_host m g trivial, trivial, Cert.Tree.value_reals⟩

end Cert.Proof

end
